-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v146_0)) (v1 : (c : Dev Cert.KernelIdeal.nD) → Buf (Elt Ideal) ((c.tc : Thread Cert.KernelIdeal.nD Cert.KernelIdeal.τ).loc Cert.KernelIdeal.main_v146_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146_0) = v0 c
          ∧ r.2.mem ((c.tc : Thread Cert.KernelIdeal.nD Cert.KernelIdeal.τ).loc Cert.KernelIdeal.main_v146_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10x1024x4096 : Shape := ⟨3, ![10, 1024, 4096]⟩
abbrev S10x1024 : Shape := ⟨2, ![10, 1024]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S16x1x16x1 : Shape := ⟨4, ![16, 1, 16, 1]⟩
abbrev S16x16x16x16 : Shape := ⟨4, ![16, 16, 16, 16]⟩
abbrev S6x256x256 : Shape := ⟨3, ![6, 256, 256]⟩
abbrev S16x16x16 : Shape := ⟨3, ![16, 16, 16]⟩
abbrev S16x256 : Shape := ⟨2, ![16, 256]⟩
abbrev S1x1x16 : Shape := ⟨3, ![1, 1, 16]⟩
abbrev S16x1x1 : Shape := ⟨3, ![16, 1, 1]⟩
abbrev S1x16x1 : Shape := ⟨3, ![1, 16, 1]⟩
abbrev S16x16x1 : Shape := ⟨3, ![16, 16, 1]⟩
abbrev S1x16x256 : Shape := ⟨3, ![1, 16, 256]⟩
abbrev S4x16x256 : Shape := ⟨3, ![4, 16, 256]⟩
abbrev S4x16x1x256 : Shape := ⟨4, ![4, 16, 1, 256]⟩
abbrev S4x16x1x8x256 : Shape := ⟨5, ![4, 16, 1, 8, 256]⟩
abbrev S4x16x8x256 : Shape := ⟨4, ![4, 16, 8, 256]⟩
abbrev S10240x4096 : Shape := ⟨2, ![10240, 4096]⟩
abbrev S80x1x128 : Shape := ⟨3, ![80, 1, 128]⟩
abbrev S128x4096 : Shape := ⟨2, ![128, 4096]⟩
abbrev S1x1x128 : Shape := ⟨3, ![1, 1, 128]⟩
abbrev S32x4096 : Shape := ⟨2, ![32, 4096]⟩
abbrev S32x2048 : Shape := ⟨2, ![32, 2048]⟩
abbrev S1x1x8x256 : Shape := ⟨4, ![1, 1, 8, 256]⟩
abbrev S8x256 : Shape := ⟨2, ![8, 256]⟩
abbrev S1x128 : Shape := ⟨2, ![1, 128]⟩

abbrev nBuf : Space → Nat
  | .hbm => 293
  | .vmem => 16
  | .smem => 0
  | _ => 0

abbrev hbmTy0_0 (i : Nat) : BufTy := match i % 128 with
  | 0 => ⟨S10x1024x4096, .i8⟩
  | 1 => ⟨S10x1024x4096, .i8⟩
  | 2 => ⟨S10x1024, .f32⟩
  | 3 => ⟨S16, .i32⟩
  | 4 => ⟨S16x1, .i32⟩
  | 5 => ⟨S1x16, .i32⟩
  | 6 => ⟨S16x16, .i32⟩
  | 7 => ⟨S16x16, .i32⟩
  | 8 => ⟨S16x16, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S16x16, .i32⟩
  | 16 => ⟨S16x16, .i32⟩
  | 17 => ⟨S_, .i32⟩
  | 18 => ⟨S16x16, .i32⟩
  | 19 => ⟨S16x16, .i1⟩
  | 20 => ⟨S_, .i32⟩
  | 21 => ⟨S16x16, .i32⟩
  | 22 => ⟨S16x16, .i1⟩
  | 23 => ⟨S_, .i32⟩
  | 24 => ⟨S_, .i1⟩
  | 25 => ⟨S16x16, .i1⟩
  | 26 => ⟨S16x16, .i1⟩
  | 27 => ⟨S16x16, .i1⟩
  | 28 => ⟨S16x16, .i32⟩
  | 29 => ⟨S16x16, .i32⟩
  | 30 => ⟨S16x16, .i32⟩
  | 31 => ⟨S16x16, .f32⟩
  | 32 => ⟨S_, .f32⟩
  | 33 => ⟨S16x16, .f32⟩
  | 34 => ⟨S16x16, .f32⟩
  | 35 => ⟨S_, .f32⟩
  | 36 => ⟨S16x16, .f32⟩
  | 37 => ⟨S16x16, .f32⟩
  | 38 => ⟨S16x16, .f32⟩
  | 39 => ⟨S_, .f32⟩
  | 40 => ⟨S16x16, .f32⟩
  | 41 => ⟨S16x16, .f32⟩
  | 42 => ⟨S16x16, .f32⟩
  | 43 => ⟨S16x16, .f32⟩
  | 44 => ⟨S_, .f32⟩
  | 45 => ⟨S16x16, .f32⟩
  | 46 => ⟨S16x16, .f32⟩
  | 47 => ⟨S16x16, .f32⟩
  | 48 => ⟨S16x16, .f32⟩
  | 49 => ⟨S16x16, .i32⟩
  | 50 => ⟨S16x16, .i32⟩
  | 51 => ⟨S_, .i32⟩
  | 52 => ⟨S16x16, .i32⟩
  | 53 => ⟨S16x16, .i32⟩
  | 54 => ⟨S16x16, .i1⟩
  | 55 => ⟨S16x16, .f32⟩
  | 56 => ⟨S8x8, .f32⟩
  | 57 => ⟨S8x8, .f32⟩
  | 58 => ⟨S8x8, .f32⟩
  | 59 => ⟨S8x8, .f32⟩
  | 60 => ⟨S8x8, .f32⟩
  | 61 => ⟨S8x1x8x1, .f32⟩
  | 62 => ⟨S1x16x1x16, .f32⟩
  | 63 => ⟨S8x16x8x16, .f32⟩
  | 64 => ⟨S8x16x8x16, .f32⟩
  | 65 => ⟨S8x16x8x16, .f32⟩
  | 66 => ⟨S128x128, .f32⟩
  | 67 => ⟨S8x8, .f32⟩
  | 68 => ⟨S8x8, .f32⟩
  | 69 => ⟨S8x1x8x1, .f32⟩
  | 70 => ⟨S1x16x1x16, .f32⟩
  | 71 => ⟨S8x16x8x16, .f32⟩
  | 72 => ⟨S8x16x8x16, .f32⟩
  | 73 => ⟨S8x16x8x16, .f32⟩
  | 74 => ⟨S128x128, .f32⟩
  | 75 => ⟨S128x256, .f32⟩
  | 76 => ⟨S8x8, .f32⟩
  | 77 => ⟨S8x1x8x1, .f32⟩
  | 78 => ⟨S1x16x1x16, .f32⟩
  | 79 => ⟨S8x16x8x16, .f32⟩
  | 80 => ⟨S8x16x8x16, .f32⟩
  | 81 => ⟨S8x16x8x16, .f32⟩
  | 82 => ⟨S128x128, .f32⟩
  | 83 => ⟨S8x8, .f32⟩
  | 84 => ⟨S8x1x8x1, .f32⟩
  | 85 => ⟨S1x16x1x16, .f32⟩
  | 86 => ⟨S8x16x8x16, .f32⟩
  | 87 => ⟨S8x16x8x16, .f32⟩
  | 88 => ⟨S8x16x8x16, .f32⟩
  | 89 => ⟨S128x128, .f32⟩
  | 90 => ⟨S128x256, .f32⟩
  | 91 => ⟨S256x256, .f32⟩
  | 92 => ⟨S8x8, .f32⟩
  | 93 => ⟨S8x8, .f32⟩
  | 94 => ⟨S8x8, .f32⟩
  | 95 => ⟨S8x8, .f32⟩
  | 96 => ⟨S8x8, .f32⟩
  | 97 => ⟨S8x1x8x1, .f32⟩
  | 98 => ⟨S1x16x1x16, .f32⟩
  | 99 => ⟨S8x16x8x16, .f32⟩
  | 100 => ⟨S8x16x8x16, .f32⟩
  | 101 => ⟨S8x16x8x16, .f32⟩
  | 102 => ⟨S128x128, .f32⟩
  | 103 => ⟨S8x8, .f32⟩
  | 104 => ⟨S8x8, .f32⟩
  | 105 => ⟨S8x1x8x1, .f32⟩
  | 106 => ⟨S1x16x1x16, .f32⟩
  | 107 => ⟨S8x16x8x16, .f32⟩
  | 108 => ⟨S8x16x8x16, .f32⟩
  | 109 => ⟨S8x16x8x16, .f32⟩
  | 110 => ⟨S128x128, .f32⟩
  | 111 => ⟨S128x256, .f32⟩
  | 112 => ⟨S8x8, .f32⟩
  | 113 => ⟨S8x1x8x1, .f32⟩
  | 114 => ⟨S1x16x1x16, .f32⟩
  | 115 => ⟨S8x16x8x16, .f32⟩
  | 116 => ⟨S8x16x8x16, .f32⟩
  | 117 => ⟨S8x16x8x16, .f32⟩
  | 118 => ⟨S128x128, .f32⟩
  | 119 => ⟨S8x8, .f32⟩
  | 120 => ⟨S8x1x8x1, .f32⟩
  | 121 => ⟨S1x16x1x16, .f32⟩
  | 122 => ⟨S8x16x8x16, .f32⟩
  | 123 => ⟨S8x16x8x16, .f32⟩
  | 124 => ⟨S8x16x8x16, .f32⟩
  | 125 => ⟨S128x128, .f32⟩
  | 126 => ⟨S128x256, .f32⟩
  | 127 => ⟨S256x256, .f32⟩
  | _ => ⟨S10x1024x4096, .i8⟩

abbrev hbmTy0_1 (i : Nat) : BufTy := match i % 128 with
  | 0 => ⟨S1x256x256, .f32⟩
  | 1 => ⟨S1x256x256, .f32⟩
  | 2 => ⟨S2x256x256, .f32⟩
  | 3 => ⟨S2x256x256, .bf16⟩
  | 4 => ⟨S16, .i32⟩
  | 5 => ⟨S16x1, .i32⟩
  | 6 => ⟨S1x16, .i32⟩
  | 7 => ⟨S16x16, .i32⟩
  | 8 => ⟨S16x16, .i32⟩
  | 9 => ⟨S16x16, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S16x16, .i32⟩
  | 17 => ⟨S16x16, .i32⟩
  | 18 => ⟨S_, .i32⟩
  | 19 => ⟨S16x16, .i32⟩
  | 20 => ⟨S16x16, .i1⟩
  | 21 => ⟨S_, .i32⟩
  | 22 => ⟨S16x16, .i32⟩
  | 23 => ⟨S16x16, .i1⟩
  | 24 => ⟨S_, .i32⟩
  | 25 => ⟨S_, .i1⟩
  | 26 => ⟨S16x16, .i1⟩
  | 27 => ⟨S16x16, .i1⟩
  | 28 => ⟨S16x16, .i1⟩
  | 29 => ⟨S16x16, .i32⟩
  | 30 => ⟨S16x16, .i32⟩
  | 31 => ⟨S16x16, .i32⟩
  | 32 => ⟨S16x16, .f32⟩
  | 33 => ⟨S_, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S16x16, .f32⟩
  | 40 => ⟨S_, .f32⟩
  | 41 => ⟨S16x16, .f32⟩
  | 42 => ⟨S16x16, .f32⟩
  | 43 => ⟨S16x16, .f32⟩
  | 44 => ⟨S16x16, .f32⟩
  | 45 => ⟨S_, .f32⟩
  | 46 => ⟨S16x16, .f32⟩
  | 47 => ⟨S16x16, .f32⟩
  | 48 => ⟨S16x16, .f32⟩
  | 49 => ⟨S16x16, .f32⟩
  | 50 => ⟨S16x16, .i32⟩
  | 51 => ⟨S16x16, .i32⟩
  | 52 => ⟨S_, .i32⟩
  | 53 => ⟨S16x16, .i32⟩
  | 54 => ⟨S16x16, .i32⟩
  | 55 => ⟨S16x16, .i1⟩
  | 56 => ⟨S16x16, .f32⟩
  | 57 => ⟨S16x16, .f32⟩
  | 58 => ⟨S16x16, .f32⟩
  | 59 => ⟨S16x16, .f32⟩
  | 60 => ⟨S16x1x16x1, .f32⟩
  | 61 => ⟨S1x16x1x16, .f32⟩
  | 62 => ⟨S16x16x16x16, .f32⟩
  | 63 => ⟨S16x16x16x16, .f32⟩
  | 64 => ⟨S16x16x16x16, .f32⟩
  | 65 => ⟨S256x256, .f32⟩
  | 66 => ⟨S16x16, .f32⟩
  | 67 => ⟨S16x1x16x1, .f32⟩
  | 68 => ⟨S1x16x1x16, .f32⟩
  | 69 => ⟨S16x16x16x16, .f32⟩
  | 70 => ⟨S16x16x16x16, .f32⟩
  | 71 => ⟨S16x16x16x16, .f32⟩
  | 72 => ⟨S256x256, .f32⟩
  | 73 => ⟨S16x16, .f32⟩
  | 74 => ⟨S16x1x16x1, .f32⟩
  | 75 => ⟨S1x16x1x16, .f32⟩
  | 76 => ⟨S16x16x16x16, .f32⟩
  | 77 => ⟨S16x16x16x16, .f32⟩
  | 78 => ⟨S16x16x16x16, .f32⟩
  | 79 => ⟨S256x256, .f32⟩
  | 80 => ⟨S16x16, .f32⟩
  | 81 => ⟨S16x1x16x1, .f32⟩
  | 82 => ⟨S1x16x1x16, .f32⟩
  | 83 => ⟨S16x16x16x16, .f32⟩
  | 84 => ⟨S16x16x16x16, .f32⟩
  | 85 => ⟨S16x16x16x16, .f32⟩
  | 86 => ⟨S256x256, .f32⟩
  | 87 => ⟨S16x16, .f32⟩
  | 88 => ⟨S16x1x16x1, .f32⟩
  | 89 => ⟨S1x16x1x16, .f32⟩
  | 90 => ⟨S16x16x16x16, .f32⟩
  | 91 => ⟨S16x16x16x16, .f32⟩
  | 92 => ⟨S16x16x16x16, .f32⟩
  | 93 => ⟨S256x256, .f32⟩
  | 94 => ⟨S16x16, .f32⟩
  | 95 => ⟨S16x1x16x1, .f32⟩
  | 96 => ⟨S1x16x1x16, .f32⟩
  | 97 => ⟨S16x16x16x16, .f32⟩
  | 98 => ⟨S16x16x16x16, .f32⟩
  | 99 => ⟨S16x16x16x16, .f32⟩
  | 100 => ⟨S256x256, .f32⟩
  | 101 => ⟨S1x256x256, .f32⟩
  | 102 => ⟨S1x256x256, .f32⟩
  | 103 => ⟨S1x256x256, .f32⟩
  | 104 => ⟨S1x256x256, .f32⟩
  | 105 => ⟨S1x256x256, .f32⟩
  | 106 => ⟨S1x256x256, .f32⟩
  | 107 => ⟨S6x256x256, .f32⟩
  | 108 => ⟨S6x256x256, .bf16⟩
  | 109 => ⟨S16, .i32⟩
  | 110 => ⟨S16x1, .i32⟩
  | 111 => ⟨S_, .i32⟩
  | 112 => ⟨S16x1, .i32⟩
  | 113 => ⟨S16x1, .i32⟩
  | 114 => ⟨S1x16, .i32⟩
  | 115 => ⟨S16x16, .i32⟩
  | 116 => ⟨S16x16, .i32⟩
  | 117 => ⟨S16x16, .i32⟩
  | 118 => ⟨S16x16x16, .i32⟩
  | 119 => ⟨S16x256, .i32⟩
  | 120 => ⟨S1x1x16, .i32⟩
  | 121 => ⟨S16x1x1, .i32⟩
  | 122 => ⟨S1x16x1, .i32⟩
  | 123 => ⟨S_, .i32⟩
  | 124 => ⟨S1x16x1, .i32⟩
  | 125 => ⟨S1x16x1, .i32⟩
  | 126 => ⟨S16x16x1, .i32⟩
  | 127 => ⟨S16x16x1, .i32⟩
  | _ => ⟨S10x1024x4096, .i8⟩

abbrev hbmTy0_2 (i : Nat) : BufTy := match i % 128 with
  | 0 => ⟨S16x16x1, .i32⟩
  | 1 => ⟨S16x16x16, .i32⟩
  | 2 => ⟨S16x16x16, .i32⟩
  | 3 => ⟨S16x16x16, .i32⟩
  | 4 => ⟨S16x256, .i32⟩
  | 5 => ⟨S16x256, .f32⟩
  | 6 => ⟨S_, .f32⟩
  | 7 => ⟨S16x256, .f32⟩
  | 8 => ⟨S16x256, .f32⟩
  | 9 => ⟨S_, .f32⟩
  | 10 => ⟨S16x256, .f32⟩
  | 11 => ⟨S16x256, .f32⟩
  | 12 => ⟨S16x256, .f32⟩
  | 13 => ⟨S16x256, .f32⟩
  | 14 => ⟨S16x256, .f32⟩
  | 15 => ⟨S_, .f32⟩
  | 16 => ⟨S16x256, .f32⟩
  | 17 => ⟨S16x256, .f32⟩
  | 18 => ⟨S_, .f32⟩
  | 19 => ⟨S16x256, .f32⟩
  | 20 => ⟨S16x256, .f32⟩
  | 21 => ⟨S16x256, .f32⟩
  | 22 => ⟨S16x256, .f32⟩
  | 23 => ⟨S1x16x256, .f32⟩
  | 24 => ⟨S1x16x256, .f32⟩
  | 25 => ⟨S1x16x256, .f32⟩
  | 26 => ⟨S1x16x256, .f32⟩
  | 27 => ⟨S4x16x256, .f32⟩
  | 28 => ⟨S4x16x256, .f32⟩
  | 29 => ⟨S4x16x1x256, .f32⟩
  | 30 => ⟨S4x16x1x8x256, .f32⟩
  | 31 => ⟨S4x16x8x256, .f32⟩
  | 32 => ⟨S10240x4096, .i8⟩
  | 33 => ⟨S10240x4096, .i8⟩
  | 34 => ⟨S80x1x128, .f32⟩
  | 35 => ⟨S10240x4096, .f32⟩
  | 36 => ⟨S10240x4096, .f32⟩
  | _ => ⟨S10x1024x4096, .i8⟩

abbrev hbmTy (i : Nat) : BufTy := match i / 128 with
  | 0 => hbmTy0_0 i
  | 1 => hbmTy0_1 i
  | 2 => hbmTy0_2 i
  | _ => ⟨S10x1024x4096, .i8⟩

abbrev bufTy : (tb : Table) → Fin (tcTables nBuf tb) → BufTy
  | .hbm, ⟨i, _⟩ => hbmTy i
  | .local _ .vmem, ⟨0, _⟩ => ⟨S128x4096, .i8⟩
  | .local _ .vmem, ⟨1, _⟩ => ⟨S128x4096, .i8⟩
  | .local _ .vmem, ⟨2, _⟩ => ⟨S128x4096, .i8⟩
  | .local _ .vmem, ⟨3, _⟩ => ⟨S128x4096, .i8⟩
  | .local _ .vmem, ⟨4, _⟩ => ⟨S1x1x128, .f32⟩
  | .local _ .vmem, ⟨5, _⟩ => ⟨S1x1x128, .f32⟩
  | .local _ .vmem, ⟨6, _⟩ => ⟨S2x256x256, .bf16⟩
  | .local _ .vmem, ⟨7, _⟩ => ⟨S6x256x256, .bf16⟩
  | .local _ .vmem, ⟨8, _⟩ => ⟨S4x16x8x256, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | _, _ => ⟨S10x1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_v31 : Ref sig .tc := ⟨.hbm, 66, rfl⟩
abbrev main_v32 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_v33 : Ref sig .tc := ⟨.hbm, 74, rfl⟩
abbrev main_v34 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_v35 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_call7_v3 : Ref sig .tc := ⟨.hbm, 99, rfl⟩
abbrev main_call7_v4 : Ref sig .tc := ⟨.hbm, 100, rfl⟩
abbrev main_call7_v5 : Ref sig .tc := ⟨.hbm, 101, rfl⟩
abbrev main_v43 : Ref sig .tc := ⟨.hbm, 102, rfl⟩
abbrev main_v44 : Ref sig .tc := ⟨.hbm, 103, rfl⟩
abbrev main_call8_v0 : Ref sig .tc := ⟨.hbm, 104, rfl⟩
abbrev main_call8_v1 : Ref sig .tc := ⟨.hbm, 105, rfl⟩
abbrev main_call8_v2 : Ref sig .tc := ⟨.hbm, 106, rfl⟩
abbrev main_call8_v3 : Ref sig .tc := ⟨.hbm, 107, rfl⟩
abbrev main_call8_v4 : Ref sig .tc := ⟨.hbm, 108, rfl⟩
abbrev main_call8_v5 : Ref sig .tc := ⟨.hbm, 109, rfl⟩
abbrev main_v45 : Ref sig .tc := ⟨.hbm, 110, rfl⟩
abbrev main_v46 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_call9_v3 : Ref sig .tc := ⟨.hbm, 115, rfl⟩
abbrev main_call9_v4 : Ref sig .tc := ⟨.hbm, 116, rfl⟩
abbrev main_call9_v5 : Ref sig .tc := ⟨.hbm, 117, rfl⟩
abbrev main_v47 : Ref sig .tc := ⟨.hbm, 118, rfl⟩
abbrev main_call10_v0 : Ref sig .tc := ⟨.hbm, 119, rfl⟩
abbrev main_call10_v1 : Ref sig .tc := ⟨.hbm, 120, rfl⟩
abbrev main_call10_v2 : Ref sig .tc := ⟨.hbm, 121, rfl⟩
abbrev main_call10_v3 : Ref sig .tc := ⟨.hbm, 122, rfl⟩
abbrev main_call10_v4 : Ref sig .tc := ⟨.hbm, 123, rfl⟩
abbrev main_call10_v5 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_c_4 : Ref sig .tc := ⟨.hbm, 138, rfl⟩
abbrev main_call11_v0 : Ref sig .tc := ⟨.hbm, 139, rfl⟩
abbrev main_call11_c : Ref sig .tc := ⟨.hbm, 140, rfl⟩
abbrev main_call11_v1 : Ref sig .tc := ⟨.hbm, 141, rfl⟩
abbrev main_call11_c_0 : Ref sig .tc := ⟨.hbm, 142, rfl⟩
abbrev main_call11_v2 : Ref sig .tc := ⟨.hbm, 143, rfl⟩
abbrev main_call11_v3 : Ref sig .tc := ⟨.hbm, 144, rfl⟩
abbrev main_call11_v4 : Ref sig .tc := ⟨.hbm, 145, rfl⟩
abbrev main_call11_c_1 : Ref sig .tc := ⟨.hbm, 146, rfl⟩
abbrev main_call11_v5 : Ref sig .tc := ⟨.hbm, 147, rfl⟩
abbrev main_call11_v6 : Ref sig .tc := ⟨.hbm, 148, rfl⟩
abbrev main_call11_c_2 : Ref sig .tc := ⟨.hbm, 149, rfl⟩
abbrev main_call11_v7 : Ref sig .tc := ⟨.hbm, 150, rfl⟩
abbrev main_call11_v8 : Ref sig .tc := ⟨.hbm, 151, rfl⟩
abbrev main_call11_c_3 : Ref sig .tc := ⟨.hbm, 152, rfl⟩
abbrev main_call11_v9 : Ref sig .tc := ⟨.hbm, 153, rfl⟩
abbrev main_call11_v10 : Ref sig .tc := ⟨.hbm, 154, rfl⟩
abbrev main_call11_v11 : Ref sig .tc := ⟨.hbm, 155, rfl⟩
abbrev main_call11_v12 : Ref sig .tc := ⟨.hbm, 156, rfl⟩
abbrev main_call11_v13 : Ref sig .tc := ⟨.hbm, 157, rfl⟩
abbrev main_call11_v14 : Ref sig .tc := ⟨.hbm, 158, rfl⟩
abbrev main_v61 : Ref sig .tc := ⟨.hbm, 159, rfl⟩
abbrev main_v62 : Ref sig .tc := ⟨.hbm, 160, rfl⟩
abbrev main_cst_5 : Ref sig .tc := ⟨.hbm, 161, rfl⟩
abbrev main_v63 : Ref sig .tc := ⟨.hbm, 162, rfl⟩
abbrev main_v64 : Ref sig .tc := ⟨.hbm, 163, rfl⟩
abbrev main_cst_6 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_cst_7 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_8 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_c_9 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_call14_v0 : Ref sig .tc := ⟨.hbm, 187, rfl⟩
abbrev main_call14_v1 : Ref sig .tc := ⟨.hbm, 188, rfl⟩
abbrev main_call14_v2 : Ref sig .tc := ⟨.hbm, 189, rfl⟩
abbrev main_call14_v3 : Ref sig .tc := ⟨.hbm, 190, rfl⟩
abbrev main_call14_v4 : Ref sig .tc := ⟨.hbm, 191, rfl⟩
abbrev main_call14_v5 : Ref sig .tc := ⟨.hbm, 192, rfl⟩
abbrev main_v84 : Ref sig .tc := ⟨.hbm, 193, rfl⟩
abbrev main_call15_v0 : Ref sig .tc := ⟨.hbm, 194, rfl⟩
abbrev main_call15_v1 : Ref sig .tc := ⟨.hbm, 195, rfl⟩
abbrev main_call15_v2 : Ref sig .tc := ⟨.hbm, 196, rfl⟩
abbrev main_call15_v3 : Ref sig .tc := ⟨.hbm, 197, rfl⟩
abbrev main_call15_v4 : Ref sig .tc := ⟨.hbm, 198, rfl⟩
abbrev main_call15_v5 : Ref sig .tc := ⟨.hbm, 199, rfl⟩
abbrev main_v85 : Ref sig .tc := ⟨.hbm, 200, rfl⟩
abbrev main_call16_v0 : Ref sig .tc := ⟨.hbm, 201, rfl⟩
abbrev main_call16_v1 : Ref sig .tc := ⟨.hbm, 202, rfl⟩
abbrev main_call16_v2 : Ref sig .tc := ⟨.hbm, 203, rfl⟩
abbrev main_call16_v3 : Ref sig .tc := ⟨.hbm, 204, rfl⟩
abbrev main_call16_v4 : Ref sig .tc := ⟨.hbm, 205, rfl⟩
abbrev main_call16_v5 : Ref sig .tc := ⟨.hbm, 206, rfl⟩
abbrev main_v86 : Ref sig .tc := ⟨.hbm, 207, rfl⟩
abbrev main_call17_v0 : Ref sig .tc := ⟨.hbm, 208, rfl⟩
abbrev main_call17_v1 : Ref sig .tc := ⟨.hbm, 209, rfl⟩
abbrev main_call17_v2 : Ref sig .tc := ⟨.hbm, 210, rfl⟩
abbrev main_call17_v3 : Ref sig .tc := ⟨.hbm, 211, rfl⟩
abbrev main_call17_v4 : Ref sig .tc := ⟨.hbm, 212, rfl⟩
abbrev main_call17_v5 : Ref sig .tc := ⟨.hbm, 213, rfl⟩
abbrev main_v87 : Ref sig .tc := ⟨.hbm, 214, rfl⟩
abbrev main_call18_v0 : Ref sig .tc := ⟨.hbm, 215, rfl⟩
abbrev main_call18_v1 : Ref sig .tc := ⟨.hbm, 216, rfl⟩
abbrev main_call18_v2 : Ref sig .tc := ⟨.hbm, 217, rfl⟩
abbrev main_call18_v3 : Ref sig .tc := ⟨.hbm, 218, rfl⟩
abbrev main_call18_v4 : Ref sig .tc := ⟨.hbm, 219, rfl⟩
abbrev main_call18_v5 : Ref sig .tc := ⟨.hbm, 220, rfl⟩
abbrev main_v88 : Ref sig .tc := ⟨.hbm, 221, rfl⟩
abbrev main_call19_v0 : Ref sig .tc := ⟨.hbm, 222, rfl⟩
abbrev main_call19_v1 : Ref sig .tc := ⟨.hbm, 223, rfl⟩
abbrev main_call19_v2 : Ref sig .tc := ⟨.hbm, 224, rfl⟩
abbrev main_call19_v3 : Ref sig .tc := ⟨.hbm, 225, rfl⟩
abbrev main_call19_v4 : Ref sig .tc := ⟨.hbm, 226, rfl⟩
abbrev main_call19_v5 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_v99 : Ref sig .tc := ⟨.hbm, 238, rfl⟩
abbrev main_c_10 : Ref sig .tc := ⟨.hbm, 239, rfl⟩
abbrev main_v100 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_c_11 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_cst_12 : Ref sig .tc := ⟨.hbm, 262, rfl⟩
abbrev main_v121 : Ref sig .tc := ⟨.hbm, 263, rfl⟩
abbrev main_v122 : Ref sig .tc := ⟨.hbm, 264, rfl⟩
abbrev main_cst_13 : Ref sig .tc := ⟨.hbm, 265, rfl⟩
abbrev main_v123 : Ref sig .tc := ⟨.hbm, 266, rfl⟩
abbrev main_v124 : Ref sig .tc := ⟨.hbm, 267, rfl⟩
abbrev main_v125 : Ref sig .tc := ⟨.hbm, 268, rfl⟩
abbrev main_v126 : Ref sig .tc := ⟨.hbm, 269, rfl⟩
abbrev main_v127 : Ref sig .tc := ⟨.hbm, 270, rfl⟩
abbrev main_cst_14 : Ref sig .tc := ⟨.hbm, 271, rfl⟩
abbrev main_v128 : Ref sig .tc := ⟨.hbm, 272, rfl⟩
abbrev main_v129 : Ref sig .tc := ⟨.hbm, 273, rfl⟩
abbrev main_cst_15 : Ref sig .tc := ⟨.hbm, 274, rfl⟩
abbrev main_v130 : Ref sig .tc := ⟨.hbm, 275, rfl⟩
abbrev main_v131 : Ref sig .tc := ⟨.hbm, 276, rfl⟩
abbrev main_v132 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146_0 : Ref sig .tc := ⟨.hbm, 291, rfl⟩
abbrev main_v146_1 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10x1024x4096 : Shape := ⟨3, ![10, 1024, 4096]⟩
abbrev S10x1024 : Shape := ⟨2, ![10, 1024]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S10x1024x16x16x16 : Shape := ⟨5, ![10, 1024, 16, 16, 16]⟩
abbrev S16x10x1024x16x16 : Shape := ⟨5, ![16, 10, 1024, 16, 16]⟩
abbrev S16x16x1 : Shape := ⟨3, ![16, 16, 1]⟩
abbrev S1x1x16x16x1 : Shape := ⟨5, ![1, 1, 16, 16, 1]⟩
abbrev S1x1x16 : Shape := ⟨3, ![1, 1, 16]⟩
abbrev S16x1x1 : Shape := ⟨3, ![16, 1, 1]⟩
abbrev S1x16x1 : Shape := ⟨3, ![1, 16, 1]⟩
abbrev S16x16x16 : Shape := ⟨3, ![16, 16, 16]⟩
abbrev S1x1x16x16x16 : Shape := ⟨5, ![1, 1, 16, 16, 16]⟩
abbrev S10x1024x1 : Shape := ⟨3, ![10, 1024, 1]⟩
abbrev S10240x4096 : Shape := ⟨2, ![10240, 4096]⟩

abbrev nBuf : Space → Nat
  | .hbm => 166
  | .vmem => 0
  | .smem => 0
  | _ => 0

abbrev hbmTy0_0 (i : Nat) : BufTy := match i % 128 with
  | 0 => ⟨S10x1024x4096, .i8⟩
  | 1 => ⟨S10x1024x4096, .i8⟩
  | 2 => ⟨S10x1024, .f32⟩
  | 3 => ⟨S16, .i32⟩
  | 4 => ⟨S16x1, .i32⟩
  | 5 => ⟨S1x16, .i32⟩
  | 6 => ⟨S16x16, .i32⟩
  | 7 => ⟨S16x16, .i32⟩
  | 8 => ⟨S16x16, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S16x16, .i32⟩
  | 16 => ⟨S16x16, .i32⟩
  | 17 => ⟨S_, .i32⟩
  | 18 => ⟨S16x16, .i32⟩
  | 19 => ⟨S16x16, .i1⟩
  | 20 => ⟨S_, .i32⟩
  | 21 => ⟨S16x16, .i32⟩
  | 22 => ⟨S16x16, .i1⟩
  | 23 => ⟨S_, .i32⟩
  | 24 => ⟨S_, .i1⟩
  | 25 => ⟨S16x16, .i1⟩
  | 26 => ⟨S16x16, .i1⟩
  | 27 => ⟨S16x16, .i1⟩
  | 28 => ⟨S16x16, .i32⟩
  | 29 => ⟨S16x16, .i32⟩
  | 30 => ⟨S16x16, .i32⟩
  | 31 => ⟨S16x16, .f32⟩
  | 32 => ⟨S_, .f32⟩
  | 33 => ⟨S16x16, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S16x16, .f32⟩
  | 40 => ⟨S16x16, .i32⟩
  | 41 => ⟨S16x16, .f32⟩
  | 42 => ⟨S_, .f32⟩
  | 43 => ⟨S16x16, .f32⟩
  | 44 => ⟨S16x16, .f32⟩
  | 45 => ⟨S16x16, .f32⟩
  | 46 => ⟨S16x16, .f32⟩
  | 47 => ⟨S16x16, .i32⟩
  | 48 => ⟨S16x16, .bf16⟩
  | 49 => ⟨S16x16, .i32⟩
  | 50 => ⟨S16x16, .bf16⟩
  | 51 => ⟨S16x16, .i32⟩
  | 52 => ⟨S16x16, .bf16⟩
  | 53 => ⟨S10x1024x4096, .i32⟩
  | 54 => ⟨S10x1024x4096, .f32⟩
  | 55 => ⟨S10x1024x16x16x16, .f32⟩
  | 56 => ⟨S10x1024x4096, .i32⟩
  | 57 => ⟨S10x1024x4096, .f32⟩
  | 58 => ⟨S10x1024x16x16x16, .f32⟩
  | 59 => ⟨S16, .i32⟩
  | 60 => ⟨S10x1024x16x16x16, .bf16⟩
  | 61 => ⟨S10x1024x16x16x16, .bf16⟩
  | 62 => ⟨S10x1024x16x16x16, .f32⟩
  | 63 => ⟨S10x1024x16x16x16, .bf16⟩
  | 64 => ⟨S16x10x1024x16x16, .f32⟩
  | 65 => ⟨S10x1024x16x16x16, .f32⟩
  | 66 => ⟨S16x10x1024x16x16, .f32⟩
  | 67 => ⟨S10x1024x16x16x16, .f32⟩
  | 68 => ⟨S16x10x1024x16x16, .f32⟩
  | 69 => ⟨S10x1024x16x16x16, .f32⟩
  | 70 => ⟨S10x1024x16x16x16, .f32⟩
  | 71 => ⟨S10x1024x16x16x16, .f32⟩
  | 72 => ⟨S16x1, .i32⟩
  | 73 => ⟨S_, .i32⟩
  | 74 => ⟨S16x1, .i32⟩
  | 75 => ⟨S16x1, .i32⟩
  | 76 => ⟨S1x16, .i32⟩
  | 77 => ⟨S16x16, .i32⟩
  | 78 => ⟨S16x16, .i32⟩
  | 79 => ⟨S16x16, .i32⟩
  | 80 => ⟨S16x16x1, .i32⟩
  | 81 => ⟨S16x16x1, .f32⟩
  | 82 => ⟨S_, .f32⟩
  | 83 => ⟨S16x16x1, .f32⟩
  | 84 => ⟨S16x16x1, .f32⟩
  | 85 => ⟨S16x16x1, .f32⟩
  | 86 => ⟨S16x16x1, .f32⟩
  | 87 => ⟨S1x1x16x16x1, .f32⟩
  | 88 => ⟨S10x1024x16x16x16, .f32⟩
  | 89 => ⟨S10x1024x16x16x16, .f32⟩
  | 90 => ⟨S1x1x16x16x1, .f32⟩
  | 91 => ⟨S10x1024x16x16x16, .f32⟩
  | 92 => ⟨S10x1024x16x16x16, .f32⟩
  | 93 => ⟨S10x1024x16x16x16, .f32⟩
  | 94 => ⟨S1x1x16x16x1, .f32⟩
  | 95 => ⟨S10x1024x16x16x16, .f32⟩
  | 96 => ⟨S10x1024x16x16x16, .f32⟩
  | 97 => ⟨S1x1x16x16x1, .f32⟩
  | 98 => ⟨S10x1024x16x16x16, .f32⟩
  | 99 => ⟨S10x1024x16x16x16, .f32⟩
  | 100 => ⟨S10x1024x16x16x16, .f32⟩
  | 101 => ⟨S10x1024x16x16x16, .bf16⟩
  | 102 => ⟨S10x1024x16x16x16, .bf16⟩
  | 103 => ⟨S10x1024x16x16x16, .f32⟩
  | 104 => ⟨S10x1024x16x16x16, .bf16⟩
  | 105 => ⟨S16x10x1024x16x16, .f32⟩
  | 106 => ⟨S10x1024x16x16x16, .f32⟩
  | 107 => ⟨S16x10x1024x16x16, .f32⟩
  | 108 => ⟨S10x1024x16x16x16, .f32⟩
  | 109 => ⟨S16x10x1024x16x16, .f32⟩
  | 110 => ⟨S10x1024x16x16x16, .f32⟩
  | 111 => ⟨S10x1024x16x16x16, .f32⟩
  | 112 => ⟨S10x1024x16x16x16, .f32⟩
  | 113 => ⟨S1x1x16, .i32⟩
  | 114 => ⟨S16x1x1, .i32⟩
  | 115 => ⟨S1x16x1, .i32⟩
  | 116 => ⟨S_, .i32⟩
  | 117 => ⟨S1x16x1, .i32⟩
  | 118 => ⟨S1x16x1, .i32⟩
  | 119 => ⟨S16x16x1, .i32⟩
  | 120 => ⟨S16x16x1, .i32⟩
  | 121 => ⟨S16x16x1, .i32⟩
  | 122 => ⟨S16x16x16, .i32⟩
  | 123 => ⟨S16x16x16, .i32⟩
  | 124 => ⟨S16x16x16, .i32⟩
  | 125 => ⟨S16x16x16, .f32⟩
  | 126 => ⟨S_, .f32⟩
  | 127 => ⟨S16x16x16, .f32⟩
  | _ => ⟨S10x1024x4096, .i8⟩

abbrev hbmTy0_1 (i : Nat) : BufTy := match i % 128 with
  | 0 => ⟨S16x16x16, .f32⟩
  | 1 => ⟨S16x16x16, .f32⟩
  | 2 => ⟨S16x16x16, .f32⟩
  | 3 => ⟨S1x1x16x16x16, .f32⟩
  | 4 => ⟨S10x1024x16x16x16, .f32⟩
  | 5 => ⟨S10x1024x16x16x16, .f32⟩
  | 6 => ⟨S1x1x16x16x16, .f32⟩
  | 7 => ⟨S10x1024x16x16x16, .f32⟩
  | 8 => ⟨S10x1024x16x16x16, .f32⟩
  | 9 => ⟨S10x1024x16x16x16, .f32⟩
  | 10 => ⟨S1x1x16x16x16, .f32⟩
  | 11 => ⟨S10x1024x16x16x16, .f32⟩
  | 12 => ⟨S10x1024x16x16x16, .f32⟩
  | 13 => ⟨S1x1x16x16x16, .f32⟩
  | 14 => ⟨S10x1024x16x16x16, .f32⟩
  | 15 => ⟨S10x1024x16x16x16, .f32⟩
  | 16 => ⟨S10x1024x16x16x16, .f32⟩
  | 17 => ⟨S10x1024x16x16x16, .bf16⟩
  | 18 => ⟨S10x1024x16x16x16, .bf16⟩
  | 19 => ⟨S10x1024x16x16x16, .f32⟩
  | 20 => ⟨S10x1024x16x16x16, .bf16⟩
  | 21 => ⟨S10x1024x16x16x16, .f32⟩
  | 22 => ⟨S10x1024x16x16x16, .f32⟩
  | 23 => ⟨S10x1024x16x16x16, .f32⟩
  | 24 => ⟨S10x1024x16x16x16, .f32⟩
  | 25 => ⟨S10x1024x16x16x16, .f32⟩
  | 26 => ⟨S_, .f32⟩
  | 27 => ⟨S10x1024, .f32⟩
  | 28 => ⟨S10x1024, .f32⟩
  | 29 => ⟨S10x1024x1, .f32⟩
  | 30 => ⟨S10x1024x4096, .f32⟩
  | 31 => ⟨S10x1024x4096, .f32⟩
  | 32 => ⟨S10x1024x4096, .f32⟩
  | 33 => ⟨S10x1024x4096, .f32⟩
  | 34 => ⟨S10x1024x4096, .f32⟩
  | 35 => ⟨S10x1024x4096, .f32⟩
  | 36 => ⟨S10240x4096, .f32⟩
  | 37 => ⟨S10240x4096, .f32⟩
  | _ => ⟨S10x1024x4096, .i8⟩

abbrev hbmTy (i : Nat) : BufTy := match i / 128 with
  | 0 => hbmTy0_0 i
  | 1 => hbmTy0_1 i
  | _ => ⟨S10x1024x4096, .i8⟩

abbrev bufTy : (tb : Table) → Fin (tcTables nBuf tb) → BufTy
  | .hbm, ⟨i, _⟩ => hbmTy i
  | _, _ => ⟨S10x1024x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_3 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_4 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_5 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_6 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩

abbrev nD : Nat := 1
abbrev τ : Topo := Topo.v7x

variable {F : FTy → Type} [FloatOps F]
-- ==== Proof.Tiles.lean ====
module

public import proofs.«01_k».proof.Proof.Gen.KernelIdeal.Frame

/-!
# The kernel's stores, written once

The kernel's body is unrolled: 128 stores into each of its three scratch buffers and 16 into each output. Here each
family of stores is one expression in the indices of the loops that it came from, and the lists of stores that the run
found are shown to be these families.
-/

@[expose] public section

set_option maxRecDepth 16384

noncomputable section

namespace Cert.KernelIdeal.Gen

open Idealize.ShloMosaic Idealize.ShloMosaic.TcCoe Idealize.ShloMosaic.Tactic

variable {F : FTy → Type} [FloatOps F]

/-- A block of 32 rows of a window. -/
theorem inbRows (g : Fin 4) : ∀ a, (![32 * g.1, 0] : Fin 2 → ℕ) a + S32x4096.size a ≤ S128x4096.size a := by
  intro a; fin_cases a <;> simp <;> omega
/-- A slice of the twiddle table lies inside it. -/
theorem inbTw (t : Fin 4) (k : Fin 16) :
    ∀ a, (![t.1, k.1, 0, 0] : Fin 4 → ℕ) a + S1x1x8x256.size a ≤ S4x16x8x256.size a := by
  intro a; fin_cases a <;> simp <;> omega
/-- A matrix of the first stage lies inside their stack. -/
theorem inbLa (p : Fin 2) : ∀ a, (![p.1, 0, 0] : Fin 3 → ℕ) a + S1x256x256.size a ≤ S2x256x256.size a := by
  intro a; fin_cases a <;> simp <;> omega
/-- A matrix of stages B and C lies inside their stack. -/
theorem inbGauss (i : Fin 6) : ∀ a, (![i.1, 0, 0] : Fin 3 → ℕ) a + S1x256x256.size a ≤ S6x256x256.size a := by
  intro a; fin_cases a <;> simp <;> omega
/-- Sixteen rows of a slab lie inside a scratch buffer. -/
theorem inbTile (g : Fin 4) (h : Fin 2) (k : Fin 16) :
    ∀ a, (![32 * g.1 + 16 * h.1, 256 * k.1] : Fin 2 → ℕ) a + S16x256.size a ≤ S128x4096.size a := by
  intro a; fin_cases a <;> simp <;> omega
/-- A slab of 256 columns lies inside a scratch buffer. -/
theorem inbSlab (k : Fin 16) :
    ∀ a, (![0, 256 * k.1] : Fin 2 → ℕ) a + S128x256.size a ≤ S128x4096.size a := by
  intro a; fin_cases a <;> simp <;> omega
/-- Sixteen rows of a slab lie inside a half. -/
theorem slicesCut (h : Fin 2) (j : Fin 8) : S32x2048.Slices ![16 * h.1, 256 * j.1] S16x256 := by
  refine ⟨rfl, fun a => ?_⟩; fin_cases a <;> simp <;> omega
/-- Sixteen rows of the upper half of stage A's product. -/
theorem slicesRe (m : Fin 8) : S256x256.Slices ![16 * m.1, 0] S16x256 := by
  refine ⟨rfl, fun a => ?_⟩; fin_cases a <;> simp <;> omega
/-- Sixteen rows of the lower half of stage A's product. -/
theorem slicesIm (m : Fin 8) : S256x256.Slices ![128 + 16 * m.1, 0] S16x256 := by
  refine ⟨rfl, fun a => ?_⟩; fin_cases a <;> simp <;> omega

/-- The sum (`p = 0`) or the difference (`p = 1`) of the two halves of 32 rows of points. -/
def half (p : Fin 2) (v : Vec F S32x4096 .i8) : FVec F S32x2048 .bf16 := if p.1 = 0 then k0_pay3 v else k0_pay5 v

/-- Sixteen rows of one 256-point slab of such a half. -/
def cut (v : FVec F S32x2048 .bf16) (h : Fin 2) (j : Fin 8) : FVec F S16x256 .bf16 :=
  extractStridedSlice S16x256 ![16 * h.1, 256 * j.1] v (slicesCut h j)

/-- The right operand of stage A: eight slabs of the real half over eight of the imaginary one. -/
def tileA (a b : FVec F S32x2048 .bf16) (h : Fin 2) : FVec F S256x256 .bf16 :=
  concatenate S256x256 0 [⟨S16x256, cut a h 0⟩, ⟨S16x256, cut a h 1⟩, ⟨S16x256, cut a h 2⟩, ⟨S16x256, cut a h 3⟩,
    ⟨S16x256, cut a h 4⟩, ⟨S16x256, cut a h 5⟩, ⟨S16x256, cut a h 6⟩, ⟨S16x256, cut a h 7⟩,
    ⟨S16x256, cut b h 0⟩, ⟨S16x256, cut b h 1⟩, ⟨S16x256, cut b h 2⟩, ⟨S16x256, cut b h 3⟩,
    ⟨S16x256, cut b h 4⟩, ⟨S16x256, cut b h 5⟩, ⟨S16x256, cut b h 6⟩, ⟨S16x256, cut b h 7⟩]
    concatenates_S16x256_S16x256_S16x256_S16x256_S16x256_S16x256_S16x256_S16x256_S16x256_S16x256_S16x256_S16x256_S16x256_S16x256_S16x256_S16x256_S256x256_d0

/-- Stage A's product. -/
def prodA (l : Vec F S1x256x256 .bf16) (a b : FVec F S32x2048 .bf16) (h : Fin 2) : FVec F S256x256 .f32 :=
  matmul dot_S256x256_S256x256_S256x256_1_0_0_1_n_n none (shapeCast S256x256 l shapeCasts_S1x256x256_S256x256)
    (tileA a b h) (constant S256x256 .f32 0x00000000#32)

/-- The real output `m` of stage A's product. -/
def reA (o : FVec F S256x256 .f32) (m : Fin 8) : FVec F S16x256 .f32 :=
  extractStridedSlice S16x256 ![16 * m.1, 0] o (slicesRe m)
/-- The imaginary output `m` of stage A's product. -/
def imA (o : FVec F S256x256 .f32) (m : Fin 8) : FVec F S16x256 .f32 :=
  extractStridedSlice S16x256 ![128 + 16 * m.1, 0] o (slicesIm m)

/-- The real results of stage A, turned by the first twiddle except at `k = 0`. -/
def zRe (k : Fin 16) (o : FVec F S256x256 .f32) (m : Fin 8) (c s : Vec F S1x1x8x256 .f32) : FVec F S16x256 .f32 :=
  if k.1 = 0 then reA o m else subf (mulf (reA o m) (k0_pay16 c)) (mulf (imA o m) (k0_pay16 s))
/-- The imaginary results of stage A, turned by the first twiddle except at `k = 0`. -/
def zIm (k : Fin 16) (o : FVec F S256x256 .f32) (m : Fin 8) (c s : Vec F S1x1x8x256 .f32) : FVec F S16x256 .f32 :=
  if k.1 = 0 then imA o m else addf (mulf (reA o m) (k0_pay16 s)) (mulf (imA o m) (k0_pay16 c))

section run
variable (arg1 : Memref sig .tc .vmem S128x4096 .i8) (harg1 : arg1.IsWhole)
  (arg2 : Memref sig .tc .vmem S128x4096 .i8) (harg2 : arg2.IsWhole)
  (arg3 : Memref sig .tc .vmem S1x1x128 .f32) (harg3 : arg3.IsWhole)
  (arg4 : Memref sig .tc .vmem S2x256x256 .bf16) (harg4 : arg4.IsWhole)
  (arg5 : Memref sig .tc .vmem S6x256x256 .bf16) (harg5 : arg5.IsWhole)
  (arg6 : Memref sig .tc .vmem S4x16x8x256 .f32) (harg6 : arg6.IsWhole)
  (arg9 : Memref sig .tc .vmem S128x4096 .bf16) (arg10 : Memref sig .tc .vmem S128x4096 .bf16)
  (arg11 : Memref sig .tc .vmem S128x4096 .bf16)
  (x0 : Vec F S128x4096 .i8) (x1 : Vec F S128x4096 .i8) (x2 : Vec F S1x1x128 .f32) (x3 : Vec F S2x256x256 .bf16)
  (x4 : Vec F S6x256x256 .bf16) (x5 : Vec F S4x16x8x256 .f32)

/-- The 32 rows of a window that step `g` of stage A reads. -/
def rowsOf (arg : Memref sig .tc .vmem S128x4096 .i8) (harg : arg.IsWhole) (x : Vec F S128x4096 .i8) (g : Fin 4) :
    Vec F S32x4096 .i8 :=
  View.readAt (Elt F) arg.view (Rect.unit (s := S128x4096) ![32 * g.1, 0] S32x4096.size (inbRows g)).toLoadRect (harg.unread x)
/-- One slice of the twiddle table. -/
def twOf (t : Fin 4) (k : Fin 16) : Vec F S1x1x8x256 .f32 :=
  View.readAt (Elt F) arg6.view (Rect.unit (s := S4x16x8x256) ![t.1, k.1, 0, 0] S1x1x8x256.size (inbTw t k)).toLoadRect (harg6.unread x5)
/-- The matrix of the first stage for the outputs of parity `p`. -/
def laOf (p : Fin 2) : Vec F S1x256x256 .bf16 :=
  View.readAt (Elt F) arg4.view (Rect.unit (s := S2x256x256) ![p.1, 0, 0] S1x256x256.size (inbLa p)).toLoadRect (harg4.unread x3)
/-- One of the six matrices of stages B and C. -/
def gaussOf (i : Fin 6) : Vec F S1x256x256 .bf16 :=
  View.readAt (Elt F) arg5.view (Rect.unit (s := S6x256x256) ![i.1, 0, 0] S1x256x256.size (inbGauss i)).toLoadRect (harg5.unread x4)

/-- Stage A's product for rows `32 g + 16 h` to `+ 15` and the outputs of parity `p`. -/
def oA (g : Fin 4) (h p : Fin 2) : FVec F S256x256 .f32 :=
  prodA (laOf arg4 harg4 x3 p) (half p (rowsOf arg1 harg1 x0 g)) (half p (rowsOf arg2 harg2 x1 g)) h

/-- The stage A output that product row group `m` of parity `p` is. -/
def kOf (p : Fin 2) (m : Fin 8) : Fin 16 := ⟨2 * m.1 + p.1, by omega⟩

/-- The real values that stage A stores. -/
def vRe (g : Fin 4) (h p : Fin 2) (m : Fin 8) : FVec F S16x256 .f32 :=
  zRe (kOf p m) (oA arg1 harg1 arg2 harg2 arg4 harg4 x0 x1 x3 g h p) m (twOf arg6 harg6 x5 0 (kOf p m))
    (twOf arg6 harg6 x5 1 (kOf p m))
/-- The imaginary values that stage A stores. -/
def vIm (g : Fin 4) (h p : Fin 2) (m : Fin 8) : FVec F S16x256 .f32 :=
  zIm (kOf p m) (oA arg1 harg1 arg2 harg2 arg4 harg4 x0 x1 x3 g h p) m (twOf arg6 harg6 x5 0 (kOf p m))
    (twOf arg6 harg6 x5 1 (kOf p m))

/-- One store into a scratch buffer. -/
def pieceA (v : FVec F S16x256 .f32) (g : Fin 4) (h p : Fin 2) (m : Fin 8) : View.Piece (Elt F) S128x4096 .bf16 :=
  ⟨Rect.unit (s := S128x4096) ![32 * g.1 + 16 * h.1, 256 * (kOf p m).1] S16x256.size (inbTile g h (kOf p m)),
    shapeCast S16x256 (truncf .bf16 v bitsLt_bf16_f32) shapeCasts_S16x256_S16x256⟩

/-- The stores into a scratch buffer, the last first. -/
def piecesA (v : Fin 4 → Fin 2 → Fin 2 → Fin 8 → FVec F S16x256 .f32) : List (View.Piece (Elt F) S128x4096 .bf16) :=
  [3, 2, 1, 0].flatMap fun g => [1, 0].flatMap fun h => [1, 0].flatMap fun p =>
    [7, 6, 5, 4, 3, 2, 1, 0].map fun m => pieceA (v g h p m) g h p m

/-- The first scratch buffer holds the sums of the real and the imaginary results of stage A. -/
theorem scratch0_eq (c : Dev nD) :
    kernelRun0_A.sl.HS0_128 c arg1 harg1 arg2 harg2 arg4 harg4 arg6 harg6 x0 x1 x3 x5
      = piecesA fun g h p m => addf (vRe arg1 harg1 arg2 harg2 arg4 harg4 arg6 harg6 x0 x1 x3 x5 g h p m)
          (vIm arg1 harg1 arg2 harg2 arg4 harg4 arg6 harg6 x0 x1 x3 x5 g h p m) := by
  sl_kernel_rfl
/-- The second scratch buffer holds the real results of stage A. -/
theorem scratch1_eq (c : Dev nD) :
    kernelRun0_A.sl.HS1_128 c arg1 harg1 arg2 harg2 arg4 harg4 arg6 harg6 x0 x1 x3 x5
      = piecesA (vRe arg1 harg1 arg2 harg2 arg4 harg4 arg6 harg6 x0 x1 x3 x5) := by
  sl_kernel_rfl
/-- The third scratch buffer holds the imaginary results of stage A. -/
theorem scratch2_eq (c : Dev nD) :
    kernelRun0_A.sl.HS2_128 c arg1 harg1 arg2 harg2 arg4 harg4 arg6 harg6 x0 x1 x3 x5
      = piecesA (vIm arg1 harg1 arg2 harg2 arg4 harg4 arg6 harg6 x0 x1 x3 x5) := by
  sl_kernel_rfl

/-! ## Stages B and C -/

/-- A 256-column slab of a scratch buffer. -/
def slabOf (arg : Memref sig .tc .vmem S128x4096 .bf16) (H : List (View.Piece (Elt F) S128x4096 .bf16)) (k : Fin 16) :
    Vec F S128x256 .bf16 :=
  arg.view.readCov H (Rect.unit (s := S128x4096) ![0, 256 * k.1] S128x256.size (inbSlab k)).toLoadRect

/-- The scale of each row, on all 256 columns of a slab. -/
def factorOf : FVec F S128x256 .f32 :=
  k0_pay1250 (View.readAt (Elt F) arg3.view
    (Rect.unit (s := S1x1x128) ![0, 0, 0] S1x1x128.size inb_S1x1x128_S1x1x128_0_0_0).toLoadRect (harg3.unread x2))
end run

/-- The product of a slab by a 256×256 matrix. -/
def dotB (a : FVec F S128x256 .bf16) (g : Vec F S1x256x256 .bf16) : FVec F S128x256 .f32 :=
  matmul dot_S128x256_S256x256_S128x256_1_0_0_1_n_n none a (shapeCast S256x256 g shapeCasts_S1x256x256_S256x256)
    (constant S128x256 .f32 0x00000000#32)
/-- Two of the three products of a stage: the real part. -/
def gRe (s b : FVec F S128x256 .bf16) (g0 g2 : Vec F S1x256x256 .bf16) : FVec F S128x256 .f32 :=
  subf (dotB s g0) (dotB b g2)
/-- Two of the three products of a stage: the imaginary part. -/
def gIm (s a : FVec F S128x256 .bf16) (g0 g1 : Vec F S1x256x256 .bf16) : FVec F S128x256 .f32 :=
  addf (dotB s g0) (dotB a g1)
/-- The real part of a complex product by a twiddle factor. -/
def tRe (re im : FVec F S128x256 .f32) (c s : Vec F S1x1x8x256 .f32) : FVec F S128x256 .f32 :=
  subf (mulf re (k0_pay1254 c)) (mulf im (k0_pay1254 s))
/-- The imaginary part of a complex product by a twiddle factor. -/
def tIm (re im : FVec F S128x256 .f32) (c s : Vec F S1x1x8x256 .f32) : FVec F S128x256 .f32 :=
  addf (mulf re (k0_pay1254 s)) (mulf im (k0_pay1254 c))

/-- What stage B and its twiddle make of three slabs: the real part. -/
def midRe (s a b : FVec F S128x256 .bf16) (G : Fin 6 → Vec F S1x256x256 .bf16) (c d : Vec F S1x1x8x256 .f32) :
    FVec F S128x256 .f32 := tRe (gRe s b (G 0) (G 2)) (gIm s a (G 0) (G 1)) c d
/-- What stage B and its twiddle make of three slabs: the imaginary part. -/
def midIm (s a b : FVec F S128x256 .bf16) (G : Fin 6 → Vec F S1x256x256 .bf16) (c d : Vec F S1x1x8x256 .f32) :
    FVec F S128x256 .f32 := tIm (gRe s b (G 0) (G 2)) (gIm s a (G 0) (G 1)) c d

/-- What stage C makes of these, scaled: the real part. -/
def lastRe (f re im : FVec F S128x256 .f32) (G : Fin 6 → Vec F S1x256x256 .bf16) : FVec F S128x256 .f32 :=
  mulf (gRe (truncf .bf16 (addf re im) bitsLt_bf16_f32) (truncf .bf16 im bitsLt_bf16_f32) (G 3) (G 5)) f
/-- What stage C makes of these, scaled: the imaginary part. -/
def lastIm (f re im : FVec F S128x256 .f32) (G : Fin 6 → Vec F S1x256x256 .bf16) : FVec F S128x256 .f32 :=
  mulf (gIm (truncf .bf16 (addf re im) bitsLt_bf16_f32) (truncf .bf16 re bitsLt_bf16_f32) (G 3) (G 4)) f

/-- The sixteen stores into an output, the last first. -/
def piecesB (v : Fin 16 → FVec F S128x256 .f32) : List (View.Piece (Elt F) S128x4096 .f32) :=
  [15, 14, 13, 12, 11, 10, 9, 8, 7, 6, 5, 4, 3, 2, 1, 0].map fun k =>
    ⟨Rect.unit (s := S128x4096) ![0, 256 * k.1] S128x256.size (inbSlab k), v k⟩

section run
variable (i : grid0.Coords) (arg1 : Memref sig .tc .vmem S128x4096 .i8) (harg1 : arg1.IsWhole)
  (arg2 : Memref sig .tc .vmem S128x4096 .i8) (harg2 : arg2.IsWhole)
  (arg3 : Memref sig .tc .vmem S1x1x128 .f32) (harg3 : arg3.IsWhole)
  (arg4 : Memref sig .tc .vmem S2x256x256 .bf16) (harg4 : arg4.IsWhole)
  (arg5 : Memref sig .tc .vmem S6x256x256 .bf16) (harg5 : arg5.IsWhole)
  (arg6 : Memref sig .tc .vmem S4x16x8x256 .f32) (harg6 : arg6.IsWhole)
  (arg7 : Memref sig .tc .vmem S128x4096 .f32) (harg7 : arg7.IsWhole)
  (arg8 : Memref sig .tc .vmem S128x4096 .f32) (harg8 : arg8.IsWhole)
  (arg9 : Memref sig .tc .vmem S128x4096 .bf16) (harg9 : arg9.IsWhole)
  (arg10 : Memref sig .tc .vmem S128x4096 .bf16) (harg10 : arg10.IsWhole)
  (arg11 : Memref sig .tc .vmem S128x4096 .bf16) (harg11 : arg11.IsWhole)
  (x0 : Vec F S128x4096 .i8) (x1 : Vec F S128x4096 .i8) (x2 : Vec F S1x1x128 .f32) (x3 : Vec F S2x256x256 .bf16)
  (x4 : Vec F S6x256x256 .bf16) (x5 : Vec F S4x16x8x256 .f32)

/-- A slab of the sums that stage A left. -/
def slab0 (c : Dev nD) (k : Fin 16) : Vec F S128x256 .bf16 :=
  slabOf arg9 (kernelRun0_A.sl.HS0_128 c arg1 harg1 arg2 harg2 arg4 harg4 arg6 harg6 x0 x1 x3 x5) k
/-- A slab of the real results that stage A left. -/
def slab1 (c : Dev nD) (k : Fin 16) : Vec F S128x256 .bf16 :=
  slabOf arg10 (kernelRun0_A.sl.HS1_128 c arg1 harg1 arg2 harg2 arg4 harg4 arg6 harg6 x0 x1 x3 x5) k
/-- A slab of the imaginary results that stage A left. -/
def slab2 (c : Dev nD) (k : Fin 16) : Vec F S128x256 .bf16 :=
  slabOf arg11 (kernelRun0_A.sl.HS2_128 c arg1 harg1 arg2 harg2 arg4 harg4 arg6 harg6 x0 x1 x3 x5) k

/-- The real part of slab `k` after stage B and its twiddle. -/
def uRe (c : Dev nD) (k : Fin 16) : FVec F S128x256 .f32 :=
  midRe (slab0 arg1 harg1 arg2 harg2 arg4 harg4 arg6 harg6 arg9 x0 x1 x3 x5 c k)
    (slab1 arg1 harg1 arg2 harg2 arg4 harg4 arg6 harg6 arg10 x0 x1 x3 x5 c k)
    (slab2 arg1 harg1 arg2 harg2 arg4 harg4 arg6 harg6 arg11 x0 x1 x3 x5 c k) (gaussOf arg5 harg5 x4)
    (twOf arg6 harg6 x5 2 k) (twOf arg6 harg6 x5 3 k)
/-- The imaginary part of slab `k` after stage B and its twiddle. -/
def uIm (c : Dev nD) (k : Fin 16) : FVec F S128x256 .f32 :=
  midIm (slab0 arg1 harg1 arg2 harg2 arg4 harg4 arg6 harg6 arg9 x0 x1 x3 x5 c k)
    (slab1 arg1 harg1 arg2 harg2 arg4 harg4 arg6 harg6 arg10 x0 x1 x3 x5 c k)
    (slab2 arg1 harg1 arg2 harg2 arg4 harg4 arg6 harg6 arg11 x0 x1 x3 x5 c k) (gaussOf arg5 harg5 x4)
    (twOf arg6 harg6 x5 2 k) (twOf arg6 harg6 x5 3 k)

/-- What the run stores into the real output. -/
theorem out6_eq (c : Dev nD) :
    (kernelRun0_A c i arg1 harg1 arg2 harg2 arg3 harg3 arg4 harg4 arg5 harg5 arg6 harg6 arg7 harg7 arg8 harg8 arg9
        harg9 arg10 harg10 arg11 harg11 x0 x1 x2 x3 x4 x5).1
      = piecesB fun k => lastRe (factorOf arg3 harg3 x2)
          (uRe arg1 harg1 arg2 harg2 arg4 harg4 arg5 harg5 arg6 harg6 arg9 arg10 arg11 x0 x1 x3 x4 x5 c k)
          (uIm arg1 harg1 arg2 harg2 arg4 harg4 arg5 harg5 arg6 harg6 arg9 arg10 arg11 x0 x1 x3 x4 x5 c k)
          (gaussOf arg5 harg5 x4) := by
  sl_kernel_rfl
/-- What the run stores into the imaginary output. -/
theorem out7_eq (c : Dev nD) :
    (kernelRun0_A c i arg1 harg1 arg2 harg2 arg3 harg3 arg4 harg4 arg5 harg5 arg6 harg6 arg7 harg7 arg8 harg8 arg9
        harg9 arg10 harg10 arg11 harg11 x0 x1 x2 x3 x4 x5).2.1
      = piecesB fun k => lastIm (factorOf arg3 harg3 x2)
          (uRe arg1 harg1 arg2 harg2 arg4 harg4 arg5 harg5 arg6 harg6 arg9 arg10 arg11 x0 x1 x3 x4 x5 c k)
          (uIm arg1 harg1 arg2 harg2 arg4 harg4 arg5 harg5 arg6 harg6 arg9 arg10 arg11 x0 x1 x3 x4 x5 c k)
          (gaussOf arg5 harg5 x4) := by
  sl_kernel_rfl
end run
end Cert.KernelIdeal.Gen
end
-- ==== Proof.Spec.lean ====
/- The transform as a function of real numbers, and the integer table of the 16-point stages. -/
module

public import Idealize.ShloMosaic.PureOps.Ideal
public import Mathlib.Analysis.SpecialFunctions.Trigonometric.Basic
public import Mathlib.Tactic.IntervalCases
public import Mathlib.Tactic.Linarith
public import Mathlib.Tactic.NormNum
public import Mathlib.Tactic.Positivity
public import Mathlib.Tactic.Ring

@[expose] public section

noncomputable section

namespace Cert.Fft

open Idealize.ShloMosaic

/-! ## The 16-point table -/

/-- `127 cos (2π r / 16)`, rounded to the nearest integer, for `r < 16`. -/
def C (r : ℕ) : ℤ :=
  [127, 117, 90, 49, 0, -49, -90, -117, -127, -117, -90, -49, 0, 49, 90, 117].getD r 0

/-- The real part of the stage matrix: `C` at `j k` modulo 16. -/
def cc (j k : ℕ) : ℤ := C (j * k % 16)

/-- The imaginary part of the stage matrix: minus the rounded sine, which is `C` a quarter turn on. -/
def dd (j k : ℕ) : ℤ := C ((j * k + 4) % 16)

/-- Rows `j` and `j + 8` of the real part differ by the sign of `k`'s parity. -/
theorem cc_half : ∀ j k : ℕ, j < 8 → k < 16 → cc (j + 8) k = if k % 2 = 0 then cc j k else -cc j k := by
  have h : ∀ j : Fin 8, ∀ k : Fin 16, cc (j + 8) k = if k.val % 2 = 0 then cc j k else -cc j k := by decide
  exact fun j k hj hk => h ⟨j, hj⟩ ⟨k, hk⟩

/-- Rows `j` and `j + 8` of the imaginary part differ by the sign of `k`'s parity. -/
theorem dd_half : ∀ j k : ℕ, j < 8 → k < 16 → dd (j + 8) k = if k % 2 = 0 then dd j k else -dd j k := by
  have h : ∀ j : Fin 8, ∀ k : Fin 16, dd (j + 8) k = if k.val % 2 = 0 then dd j k else -dd j k := by decide
  exact fun j k hj hk => h ⟨j, hj⟩ ⟨k, hk⟩

/-- The float constant `2π` as a real number. -/
def twoPi : ℝ := 13176795 / 2097152

/-- The float constant `2π` is `2π` to three digits: the sine of `π/32` is known, and the sine's cubic is close. -/
theorem abs_twoPi_sub : |twoPi - 2 * Real.pi| < 1 / 2000 := by
  have a1 : (1.41421356 : ℝ) < √2 := by rw [Real.lt_sqrt] <;> norm_num
  have a2 : √2 < (1.41421357 : ℝ) := by rw [Real.sqrt_lt'] <;> norm_num
  have b1 : (1.84775906 : ℝ) < √(2 + √2) := by rw [Real.lt_sqrt (by norm_num)]; norm_num; linarith
  have b2 : √(2 + √2) < (1.84775908 : ℝ) := by rw [Real.sqrt_lt' (by norm_num)]; norm_num; linarith
  have c1 : (1.96157055 : ℝ) < √(2 + √(2 + √2)) := by rw [Real.lt_sqrt (by norm_num)]; norm_num; linarith
  have c2 : √(2 + √(2 + √2)) < (1.96157058 : ℝ) := by rw [Real.sqrt_lt' (by norm_num)]; norm_num; linarith
  have d1 : (0.196034 : ℝ) < √(2 - √(2 + √(2 + √2))) := by rw [Real.lt_sqrt (by norm_num)]; norm_num; linarith
  have d2 : √(2 - √(2 + √(2 + √2))) < (0.196035 : ℝ) := by rw [Real.sqrt_lt' (by norm_num)]; norm_num; linarith
  have hv := Real.sin_pi_div_thirty_two
  have hp := Real.pi_pos
  have h4 := Real.pi_le_four
  obtain ⟨x, hx⟩ : ∃ x, x = Real.pi / 32 := ⟨_, rfl⟩
  rw [← hx] at hv
  have hpi : Real.pi = 32 * x := by rw [hx]; ring
  have x0 : 0 ≤ x := by linarith
  have x1 : x ≤ 1 / 8 := by linarith
  have hb := Real.sin_bound (x := x) (by rw [abs_of_nonneg x0]; linarith)
  rw [hv, abs_of_nonneg x0, abs_le] at hb
  have x2 : x ^ 2 ≤ 1 / 64 := by nlinarith
  have x5 : x ^ 5 ≤ 1 / 32768 := by
    rw [show (1 / 32768 : ℝ) = (1 / 8) ^ 5 by norm_num]; exact pow_le_pow_left₀ x0 x1 5
  have x3 : 0 ≤ x ^ 3 := by positivity
  have u : (98016 / 1000000) ≤ x := by linarith [hb.1, hb.2]
  have u3 : (98016 / 1000000) ^ 3 ≤ x ^ 3 := pow_le_pow_left₀ (by norm_num) u 3
  have v : x ≤ 98177 / 1000000 := by
    by_contra h
    have hd : x - x ^ 3 / 6 ≥ 98177 / 1000000 - (98177 / 1000000) ^ 3 / 6 := by
      have h1 : 0 ≤ x - 98177 / 1000000 := by linarith
      have h2 : 0 ≤ 6 - (x ^ 2 + x * (98177 / 1000000) + (98177 / 1000000) ^ 2) := by norm_num; linarith
      have h3 := mul_nonneg h1 h2
      have h4 : x - x ^ 3 / 6 - (98177 / 1000000 - (98177 / 1000000) ^ 3 / 6)
          = (x - 98177 / 1000000) * (6 - (x ^ 2 + x * (98177 / 1000000) + (98177 / 1000000) ^ 2)) / 6 := by ring
      linarith
    have hd' : (98177 / 1000000 : ℝ) - (98177 / 1000000) ^ 3 / 6 ≥ 980190 / 10000000 := by norm_num
    linarith [hb.1, hb.2]
  have w : (98172 / 1000000) ≤ x := by
    have : (98016 / 1000000 : ℝ) ^ 3 ≥ 9416 / 10000000 := by norm_num
    linarith [hb.1, hb.2]
  unfold twoPi
  rw [hpi, abs_lt]; constructor <;> linarith

/-- Two angles within `1/2000` of each other have cosines within `1/1900` of each other. -/
theorem abs_cos_sub_le (a b : ℝ) (h : |a - b| ≤ 1 / 2000) : |Real.cos a - Real.cos b| ≤ 1 / 1900 := by
  rw [Real.cos_sub_cos]
  have h1 := Real.abs_sin_le_one ((a + b) / 2)
  have h2 : |(a - b) / 2| ≤ 1 / 4000 := by rw [abs_div, abs_of_pos (by norm_num : (0 : ℝ) < 2)]; linarith
  have h3 : |Real.sin ((a - b) / 2)| ≤ 1 / 3800 := by
    generalize (a - b) / 2 = y at h2
    have hb := Real.sin_bound (x := y) (by linarith)
    have y5 : |y| ^ 5 ≤ (1 / 4000) ^ 5 := pow_le_pow_left₀ (abs_nonneg y) h2 5
    have y3 : |y ^ 3| ≤ (1 / 4000) ^ 3 := by rw [abs_pow]; exact pow_le_pow_left₀ (abs_nonneg y) h2 3
    rw [abs_le] at *
    norm_num at *
    constructor <;> linarith
  rw [abs_mul, abs_mul]
  have : |(-2 : ℝ)| = 2 := by norm_num
  rw [this]
  nlinarith [abs_nonneg (Real.sin ((a - b) / 2)), abs_nonneg (Real.sin ((a + b) / 2))]

/-- The cosines of the first quarter turn are within a half of their table entries. -/
theorem cos_quarter :
    |127 * Real.cos (Real.pi / 8) - 117| < 42 / 100 ∧ |127 * Real.cos (Real.pi / 4) - 90| < 42 / 100 ∧
      |127 * Real.sin (Real.pi / 8) - 49| < 42 / 100 := by
  have a1 : (1.414213 : ℝ) < √2 := by rw [Real.lt_sqrt] <;> norm_num
  have a2 : √2 < (1.414214 : ℝ) := by rw [Real.sqrt_lt'] <;> norm_num
  have b1 : (1.8477 : ℝ) < √(2 + √2) := by rw [Real.lt_sqrt (by norm_num)]; norm_num; linarith
  have b2 : √(2 + √2) < (1.8478 : ℝ) := by rw [Real.sqrt_lt' (by norm_num)]; norm_num; linarith
  have c1 : (0.7653 : ℝ) < √(2 - √2) := by rw [Real.lt_sqrt (by norm_num)]; norm_num; linarith
  have c2 : √(2 - √2) < (0.7654 : ℝ) := by rw [Real.sqrt_lt' (by norm_num)]; norm_num; linarith
  rw [Real.cos_pi_div_eight, Real.cos_pi_div_four, Real.sin_pi_div_eight]
  refine ⟨?_, ?_, ?_⟩ <;> rw [abs_lt] <;> constructor <;> linarith

/-- `127 cos` at each sixteenth of a turn is within a half of its table entry. -/
theorem cos_table (r : ℕ) (hr : r < 16) : |127 * Real.cos (r * (Real.pi / 8)) - C r| < 42 / 100 := by
  obtain ⟨h1, h2, h3⟩ := cos_quarter
  have e0 : ∀ s : ℕ, s ≤ 4 → |127 * Real.cos (s * (Real.pi / 8)) - C s| < 42 / 100 := by
    intro s hs
    have q4 : Real.cos (4 * (Real.pi / 8)) = 0 := by
      rw [show 4 * (Real.pi / 8) = Real.pi / 2 by ring, Real.cos_pi_div_two]
    have q3 : Real.cos (3 * (Real.pi / 8)) = Real.sin (Real.pi / 8) := by
      rw [show 3 * (Real.pi / 8) = Real.pi / 2 - Real.pi / 8 by ring, Real.cos_pi_div_two_sub]
    have q2 : Real.cos (2 * (Real.pi / 8)) = Real.cos (Real.pi / 4) := by ring_nf
    interval_cases s <;> simp [C, q4, q3, q2, -Real.cos_pi_div_eight, -Real.cos_pi_div_four, -Real.sin_pi_div_eight] <;> first | norm_num at h1 h2 h3 ⊢; assumption | norm_num
  have e1 : ∀ s : ℕ, s ≤ 8 → |127 * Real.cos (s * (Real.pi / 8)) - C s| < 42 / 100 := by
    intro s hs
    rcases Nat.lt_or_ge 4 s with h | h
    · have := e0 (8 - s) (by omega)
      have hc : C s = - C (8 - s) := by interval_cases s <;> rfl
      rw [Nat.cast_sub hs, show ((8 : ℕ) - s : ℝ) * (Real.pi / 8) = Real.pi - s * (Real.pi / 8) by push_cast; ring,
        Real.cos_pi_sub] at this
      rw [hc, ← abs_neg]; push_cast; convert this using 2; ring
    · exact e0 s h
  rcases Nat.lt_or_ge 8 r with h | h
  · have := e1 (r - 8) (by omega)
    have hc : C r = - C (r - 8) := by interval_cases r <;> rfl
    rw [Nat.cast_sub h.le, show (r - (8 : ℕ) : ℝ) * (Real.pi / 8) = r * (Real.pi / 8) - Real.pi by push_cast; ring,
      Real.cos_sub_pi] at this
    rw [hc, ← abs_neg]; push_cast; convert this using 2; ring
  · exact e1 r h

/-- A real number within a half of an integer rounds to it. -/
theorem roundHalfEven_eq (x : ℝ) (n : ℤ) (h : |x - n| < 1 / 2) : Ideal.roundHalfEven x = n := by
  rw [abs_lt] at h
  unfold Ideal.roundHalfEven
  rcases le_or_gt (n : ℝ) x with hx | hx
  · have hf : ⌊x⌋ = n := by rw [Int.floor_eq_iff]; constructor <;> linarith
    simp only [hf]; rw [if_pos (by linarith)]
  · have hf : ⌊x⌋ = n - 1 := by rw [Int.floor_eq_iff]; push_cast; constructor <;> linarith
    simp only [hf]; rw [if_neg (by push_cast; linarith), if_pos (by push_cast; linarith)]; ring

/-- The rounded cosine of the float angle `2π r / 16` is the table's entry. -/
theorem round_cos (r : ℕ) (hr : r < 16) : Ideal.roundHalfEven (127 * Real.cos (twoPi * r / 16)) = C r := by
  apply roundHalfEven_eq
  have h1 := cos_table r hr
  have h3 : |twoPi * r / 16 - r * (Real.pi / 8)| ≤ 1 / 2000 := by
    rw [show twoPi * r / 16 - r * (Real.pi / 8) = (twoPi - 2 * Real.pi) * (r / 16) by ring, abs_mul]
    have := abs_twoPi_sub
    have h4 : |(r / 16 : ℝ)| ≤ 1 := by
      rw [abs_of_nonneg (by positivity), div_le_one (by norm_num)]; exact_mod_cast hr.le
    calc _ ≤ 1 / 2000 * 1 := mul_le_mul this.le h4 (abs_nonneg _) (by norm_num)
      _ = 1 / 2000 := by ring
  have h2 := abs_cos_sub_le _ _ h3
  rw [abs_lt] at *; rw [abs_le] at h2
  constructor <;> linarith

/-- The rounded sine of the float angle `2π r / 16` is minus the table's entry a quarter turn on. -/
theorem round_sin (r : ℕ) (hr : r < 16) :
    Ideal.roundHalfEven (127 * Real.sin (twoPi * r / 16)) = -C ((r + 4) % 16) := by
  apply roundHalfEven_eq
  have h1 := cos_table ((r + 4) % 16) (Nat.mod_lt _ (by norm_num))
  have hs : Real.cos (((r + 4) % 16 : ℕ) * (Real.pi / 8)) = -Real.sin (r * (Real.pi / 8)) := by
    have hm : (((r + 4) % 16 : ℕ) : ℝ) = r + 4 ∨ (((r + 4) % 16 : ℕ) : ℝ) = r + 4 - 16 := by
      rcases Nat.lt_or_ge (r + 4) 16 with h | h
      · left; rw [Nat.mod_eq_of_lt h]; push_cast; ring
      · right; rw [show (r + 4) % 16 = r + 4 - 16 by omega, Nat.cast_sub h]; push_cast; ring
    rcases hm with hm | hm <;> rw [hm]
    · rw [show ((r : ℝ) + 4) * (Real.pi / 8) = r * (Real.pi / 8) + Real.pi / 2 by ring, Real.cos_add_pi_div_two]
    · rw [show ((r : ℝ) + 4 - 16) * (Real.pi / 8) = r * (Real.pi / 8) + Real.pi / 2 - 2 * Real.pi by ring,
        Real.cos_sub_two_pi, Real.cos_add_pi_div_two]
  rw [hs] at h1
  have h3 : |twoPi * r / 16 - r * (Real.pi / 8)| ≤ 1 / 2000 := by
    rw [show twoPi * r / 16 - r * (Real.pi / 8) = (twoPi - 2 * Real.pi) * (r / 16) by ring, abs_mul]
    have := abs_twoPi_sub
    have h4 : |(r / 16 : ℝ)| ≤ 1 := by
      rw [abs_of_nonneg (by positivity), div_le_one (by norm_num)]; exact_mod_cast hr.le
    calc _ ≤ 1 / 2000 * 1 := mul_le_mul this.le h4 (abs_nonneg _) (by norm_num)
      _ = 1 / 2000 := by ring
  have h2 := abs_cos_sub_le (twoPi * r / 16 - Real.pi / 2) (r * (Real.pi / 8) - Real.pi / 2)
    (by rwa [show twoPi * r / 16 - Real.pi / 2 - (r * (Real.pi / 8) - Real.pi / 2) = twoPi * r / 16 - r * (Real.pi / 8) by ring])
  rw [Real.cos_sub_pi_div_two, Real.cos_sub_pi_div_two] at h2
  push_cast
  rw [abs_lt] at *; rw [abs_le] at h2
  constructor <;> linarith

/-! ## The transform -/

/-- The angle of the twiddle factor `m`: `-2π m / 4096`, with the float constant for `2π`. -/
def theta (m : ℕ) : ℝ := m * (-twoPi / 4096)

/-- One 16-point stage, the real part at output `k`. -/
def stRe (x y : Fin 16 → ℝ) (k : Fin 16) : ℝ := ∑ j : Fin 16, ((cc j k : ℝ) * x j - (dd j k : ℝ) * y j)

/-- One 16-point stage, the imaginary part at output `k`. -/
def stIm (x y : Fin 16 → ℝ) (k : Fin 16) : ℝ := ∑ j : Fin 16, ((dd j k : ℝ) * x j + (cc j k : ℝ) * y j)

/-- A complex number times the twiddle factor `m`, the real part. -/
def twRe (x y : ℝ) (m : ℕ) : ℝ := x * Real.cos (theta m) - y * Real.sin (theta m)

/-- A complex number times the twiddle factor `m`, the imaginary part. -/
def twIm (x y : ℝ) (m : ℕ) : ℝ := x * Real.sin (theta m) + y * Real.cos (theta m)

section
variable (X Y : Fin 16 → Fin 16 → Fin 16 → ℝ)

/-- After the first stage and its twiddle factors, the real part. -/
def aRe (k m n : Fin 16) : ℝ :=
  twRe (stRe (fun j => X j m n) (fun j => Y j m n) k) (stIm (fun j => X j m n) (fun j => Y j m n) k) (16 * k * m)

/-- After the first stage and its twiddle factors, the imaginary part. -/
def aIm (k m n : Fin 16) : ℝ :=
  twIm (stRe (fun j => X j m n) (fun j => Y j m n) k) (stIm (fun j => X j m n) (fun j => Y j m n) k) (16 * k * m)

/-- After the second stage and its twiddle factors, the real part, from what the first left. -/
def bRe (k l n : Fin 16) : ℝ :=
  twRe (stRe (fun j => X k j n) (fun j => Y k j n) l) (stIm (fun j => X k j n) (fun j => Y k j n) l)
    (n * (k + 16 * l))

/-- After the second stage and its twiddle factors, the imaginary part. -/
def bIm (k l n : Fin 16) : ℝ :=
  twIm (stRe (fun j => X k j n) (fun j => Y k j n) l) (stIm (fun j => X k j n) (fun j => Y k j n) l)
    (n * (k + 16 * l))

/-- The real part of the transform. -/
def outRe (k l q : Fin 16) : ℝ :=
  stRe (fun j => bRe (aRe X Y) (aIm X Y) k l j) (fun j => bIm (aRe X Y) (aIm X Y) k l j) q

/-- The imaginary part of the transform. -/
def outIm (k l q : Fin 16) : ℝ :=
  stIm (fun j => bRe (aRe X Y) (aIm X Y) k l j) (fun j => bIm (aRe X Y) (aIm X Y) k l j) q
end

/-- Three sums of products give the real part of a stage. -/
theorem gauss_re (x y : Fin 16 → ℝ) (k : Fin 16) :
    (∑ j : Fin 16, (x j + y j) * (cc j k : ℝ)) - ∑ j : Fin 16, y j * ((cc j k : ℝ) + dd j k) = stRe x y k := by
  rw [← Finset.sum_sub_distrib]; exact Finset.sum_congr rfl fun j _ => by ring

/-- Three sums of products give the imaginary part of a stage. -/
theorem gauss_im (x y : Fin 16 → ℝ) (k : Fin 16) :
    (∑ j : Fin 16, (x j + y j) * (cc j k : ℝ)) + ∑ j : Fin 16, x j * ((dd j k : ℝ) - cc j k) = stIm x y k := by
  rw [← Finset.sum_add_distrib]; exact Finset.sum_congr rfl fun j _ => by ring

end Cert.Fft

end
-- ==== Proof.Kron.lean ====
/- Sums over 256 indices read as pairs of digits, and what a product with a Kronecker product by the identity comes to. -/
module

public import proofs.«01_k».proof.Proof.Spec

@[expose] public section

noncomputable section

namespace Cert.Fft

/-- The high digit of an index below 256. -/
def hi (r : Fin 256) : Fin 16 := ⟨r.1 / 16, by omega⟩

/-- The low digit of an index below 256. -/
def lo (r : Fin 256) : Fin 16 := ⟨r.1 % 16, by omega⟩

/-- The index with these two digits. -/
def pack (a b : Fin 16) : Fin 256 := ⟨16 * a.1 + b.1, by omega⟩

/-- The high digit of a packed pair. -/
theorem hi_pack (a b : Fin 16) : hi (pack a b) = a := by ext; simp only [hi, pack]; omega
/-- The low digit of a packed pair. -/
theorem lo_pack (a b : Fin 16) : lo (pack a b) = b := by ext; simp only [lo, pack]; omega
/-- An index is its two digits packed. -/
theorem pack_hi_lo (r : Fin 256) : pack (hi r) (lo r) = r := by ext; simp only [hi, lo, pack]; omega

/-- A sum over 256 indices is a double sum over the digits. -/
theorem sum_pack (f : Fin 256 → ℝ) : ∑ r, f r = ∑ a : Fin 16, ∑ b : Fin 16, f (pack a b) := by
  rw [← Fintype.sum_prod_type']
  refine (Equiv.sum_comp (finProdFinEquiv (m := 16) (n := 16)) f).symm.trans (Finset.sum_congr rfl fun p _ => congrArg f ?_)
  ext; simp [finProdFinEquiv, pack]; omega

/-- A sum of real numbers, read among the extended ones. -/
theorem coe_sum {ι : Type*} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A row times a matrix that acts on the high digit. -/
theorem sum_high (f : Fin 256 → ℝ) (g : Fin 16 → Fin 16 → ℝ) (x : Fin 256) :
    ∑ r, f r * (if lo r = lo x then g (hi r) (hi x) else 0) = ∑ a, f (pack a (lo x)) * g a (hi x) := by
  rw [sum_pack]
  refine Finset.sum_congr rfl fun a _ => ?_
  simp [hi_pack, lo_pack]

/-- A row times a matrix that acts on the low digit. -/
theorem sum_low (f : Fin 256 → ℝ) (g : Fin 16 → Fin 16 → ℝ) (x : Fin 256) :
    ∑ r, f r * (if hi r = hi x then g (lo r) (lo x) else 0) = ∑ b, f (pack (hi x) b) * g b (lo x) := by
  rw [sum_pack, Finset.sum_comm]
  refine Finset.sum_congr rfl fun a _ => ?_
  simp [hi_pack, lo_pack]

/-- A matrix that acts on the high digit, times a column. -/
theorem sum_high_left (f : Fin 256 → ℝ) (g : Fin 16 → Fin 16 → ℝ) (r : Fin 256) :
    ∑ x, (if lo r = lo x then g (hi r) (hi x) else 0) * f x = ∑ a, g (hi r) a * f (pack a (lo r)) := by
  rw [sum_pack]
  refine Finset.sum_congr rfl fun a _ => ?_
  simp [hi_pack, lo_pack]

/-- The entry of the first stage's matrix for outputs of parity `p`: row `a` is a real output below 8 and an imaginary one from there
on, column `b` a real input and an imaginary one. -/
def laEntry (p : Fin 2) (a b : Fin 16) : ℝ :=
  if a.1 < 8 then (if b.1 < 8 then (cc b (2 * a + p) : ℝ) else -(dd (b - 8) (2 * a + p) : ℝ))
  else (if b.1 < 8 then (dd b (2 * (a - 8) + p) : ℝ) else (cc (b - 8) (2 * (a - 8) + p) : ℝ))

/-- The sum, or for `p = 1` the difference, of entries `j` and `j + 8`. -/
def fold (p : Fin 2) (x : Fin 16 → ℝ) (j : Fin 8) : ℝ :=
  if p.1 = 0 then x ⟨j, by omega⟩ + x ⟨j + 8, by omega⟩ else x ⟨j, by omega⟩ - x ⟨j + 8, by omega⟩

/-- The folded real inputs over the folded imaginary ones. -/
def foldCol (p : Fin 2) (x y : Fin 16 → ℝ) (b : Fin 16) : ℝ :=
  if h : b.1 < 8 then fold p x ⟨b, h⟩ else fold p y ⟨b - 8, by omega⟩

/-- A sum over sixteen indices, taken as eight pairs `j` and `j + 8`. -/
theorem sum_sixteen (f : Fin 16 → ℝ) :
    ∑ b, f b = ∑ j : Fin 8, (f ⟨j, by omega⟩ + f ⟨j + 8, by omega⟩) := by
  simp only [Fin.sum_univ_succ, Fin.sum_univ_zero]
  simp only [Fin.succ, Fin.val_zero, Fin.castSucc]
  norm_num
  ring

/-- The folded product gives the real part of a 16-point stage at the output `2 m + p`. -/
theorem fold_re (p : Fin 2) (x y : Fin 16 → ℝ) (m : Fin 8) (k : Fin 16) (hk : k.1 = 2 * m + p) :
    ∑ b, laEntry p ⟨m, by omega⟩ b * foldCol p x y b = stRe x y k := by
  rw [sum_sixteen, stRe, sum_sixteen]
  refine Finset.sum_congr rfl fun j _ => ?_
  have h1 := cc_half j k j.2 k.2
  have h2 := dd_half j k j.2 k.2
  have hm : m.1 < 8 := m.2
  have hj : j.1 < 8 := j.2
  have hq : k.1 % 2 = p.1 := by omega
  rw [hq] at h1 h2
  simp only [laEntry, foldCol, fold, hm, hj, ← hk, if_true, dif_pos, h1, h2, show ¬ j.1 + 8 < 8 by omega, if_false, dif_neg, not_false_eq_true,
    Nat.add_sub_cancel]
  split_ifs <;> push_cast <;> ring

/-- The folded product gives the imaginary part of a 16-point stage at the output `2 m + p`. -/
theorem fold_im (p : Fin 2) (x y : Fin 16 → ℝ) (m : Fin 8) (k : Fin 16) (hk : k.1 = 2 * m + p) :
    ∑ b, laEntry p ⟨m + 8, by omega⟩ b * foldCol p x y b = stIm x y k := by
  rw [sum_sixteen, stIm, sum_sixteen]
  refine Finset.sum_congr rfl fun j _ => ?_
  have h1 := cc_half j k j.2 k.2
  have h2 := dd_half j k j.2 k.2
  have hj : j.1 < 8 := j.2
  have hq : k.1 % 2 = p.1 := by omega
  rw [hq] at h1 h2
  simp only [laEntry, foldCol, fold, hj, ← hk, if_true, dif_pos, h1, h2, show ¬ j.1 + 8 < 8 by omega, show ¬ m.1 + 8 < 8 by omega, if_false,
    dif_neg, not_false_eq_true, Nat.add_sub_cancel]
  split_ifs <;> push_cast <;> ring

/-- The three matrices of the second and third stage. -/
def gaussEntry (i : ℕ) (a b : Fin 16) : ℝ :=
  if i = 0 then (cc a b : ℝ) else if i = 1 then (dd a b : ℝ) - cc a b else (cc a b : ℝ) + dd a b

/-- The first matrix is the real table. -/
theorem gaussEntry_zero (a b : Fin 16) : gaussEntry 0 a b = cc a b := rfl
/-- The second matrix is the imaginary table less the real one. -/
theorem gaussEntry_one (a b : Fin 16) : gaussEntry 1 a b = (dd a b : ℝ) - cc a b := rfl
/-- The third matrix is the sum of the two tables. -/
theorem gaussEntry_two (a b : Fin 16) : gaussEntry 2 a b = (cc a b : ℝ) + dd a b := rfl

end Cert.Fft

end
-- ==== Proof.Consts.lean ====
/- The float constants of both programs as real numbers, and the angles made from them. -/
module

public import proofs.«01_k».proof.Proof.Kron
public import Idealize.ShloMosaic.Lib.Pointwise

@[expose] public section

noncomputable section

namespace Cert.Fft

open Idealize.ShloMosaic

/-- The float nearest to `2π`. -/
theorem ofBits_twoPi : Ideal.ofBits .f32 0x40C90FDB#32 = (twoPi : EReal) := by
  simp [Ideal.ofBits, Ideal.ieee, twoPi, -EReal.coe_mul]; norm_num
/-- The float nearest to `-2π`. -/
theorem ofBits_negTwoPi : Ideal.ofBits .f32 0xC0C90FDB#32 = ((-twoPi : ℝ) : EReal) := by
  simp [Ideal.ofBits, Ideal.ieee, twoPi, -EReal.coe_mul]; norm_num
/-- The float 16. -/
theorem ofBits_sixteen : Ideal.ofBits .f32 0x41800000#32 = ((16 : ℝ) : EReal) := by
  simp [Ideal.ofBits, Ideal.ieee, -EReal.coe_mul]; norm_num
/-- The float 127. -/
theorem ofBits_127 : Ideal.ofBits .f32 0x42FE0000#32 = ((127 : ℝ) : EReal) := by
  simp [Ideal.ofBits, Ideal.ieee, -EReal.coe_mul]; norm_num
/-- The float 4096. -/
theorem ofBits_4096 : Ideal.ofBits .f32 0x45800000#32 = ((4096 : ℝ) : EReal) := by
  simp [Ideal.ofBits, Ideal.ieee, -EReal.coe_mul]; norm_num

/-- A small natural number as a 32-bit integer, read as a float. -/
theorem sitofp_nat (n : ℕ) (h : n < 2 ^ 31) :
    (FloatOps.sitofp (F := Ideal) FTy.f32 (BitVec.ofNat 32 n) : EReal) = ((n : ℝ) : EReal) := by
  show (((BitVec.ofNat 32 n).toInt : ℝ) : EReal) = _
  have e : (BitVec.ofNat 32 n).toInt = n := by
    rw [BitVec.toInt_eq_toNat_cond, BitVec.toNat_ofNat, Nat.mod_eq_of_lt (by omega), if_pos (by omega)]
  rw [e, Int.cast_natCast]

/-- A quotient of real numbers. -/
theorem div_coe_coe (x y : ℝ) (h : y ≠ 0) : Ideal.div (x : EReal) (y : EReal) = ((x / y : ℝ) : EReal) := by
  rw [Ideal.div_coe h, ← EReal.coe_mul]; congr 1; ring

/-- The kernel's angle of the 16-point table. -/
theorem angle_div (r : ℕ) : Ideal.div ((twoPi : EReal) * ((r : ℝ) : EReal)) ((16 : ℝ) : EReal) = ((twoPi * r / 16 : ℝ) : EReal) := by
  rw [← EReal.coe_mul, div_coe_coe _ _ (by norm_num)]

/-- The kernel's angle of a twiddle factor. -/
theorem theta_div (n : ℕ) : Ideal.div (((-twoPi : ℝ) : EReal) * ((n : ℝ) : EReal)) ((4096 : ℝ) : EReal) = (theta n : EReal) := by
  rw [← EReal.coe_mul, div_coe_coe _ _ (by norm_num), theta]; congr 1; ring

/-- The rounded cosine is the table `cc`. -/
theorem round_cc (j k : ℕ) :
    Ideal.roundHalfEven (127 * Real.cos (twoPi * ((j * k % 16 : ℕ) : ℝ) / 16)) = cc j k :=
  round_cos _ (Nat.mod_lt _ (by norm_num))

/-- Minus the rounded sine is the table `dd`. -/
theorem round_dd (j k : ℕ) :
    -Ideal.roundHalfEven (127 * Real.sin (twoPi * ((j * k % 16 : ℕ) : ℝ) / 16)) = dd j k := by
  rw [round_sin _ (Nat.mod_lt _ (by norm_num)), neg_neg, dd, Nat.mod_add_mod]

end Cert.Fft

end
-- ==== Proof.StageA.lean ====
/- Stage A's values at an index, as real numbers: the folded inputs, the product, and the first twiddle factor. -/
module

public import proofs.«01_k».proof.Proof.Tiles
public import proofs.«01_k».proof.Proof.Consts
public import Idealize.ShloMosaic.Lib.WholeRead

@[expose] public section
set_option maxRecDepth 16384
noncomputable section
namespace Cert.KernelIdeal.Gen
open Idealize.ShloMosaic Idealize.ShloMosaic.TcCoe Idealize.ShloMosaic.Tactic Cert.Fft

/-- An 8-bit integer as a real number. -/
def val8 (b : BitVec 8) : ℝ := (b.toInt : ℝ)

/-- Point `j` of the sixteen points of row `r` at lane `x`. -/
def points (v : Vec Ideal S32x4096 .i8) (r : Fin 32) (x : Fin 256) (j : Fin 16) : ℝ :=
  val8 (v (ix2 r ⟨256 * j + x, by omega⟩))

/-- The folded inputs. -/
theorem half_apply (p : Fin 2) (v : Vec Ideal S32x4096 .i8) (r : Fin 32) (j : Fin 8) (x : Fin 256) :
    half p v (ix2 r ⟨256 * j + x, by omega⟩) = ((fold p (points v r x) j : ℝ) : EReal) := by
  have e : 2048 + (256 * j.1 + x.1) = 256 * (j.1 + 8) + x.1 := by omega
  obtain rfl | rfl : p = 0 ∨ p = 1 := by omega
  · pointwise [half, k0_pay3, k0_pay1]
    simp only [e]
    exact (EReal.coe_add _ _).symm
  · pointwise [half, k0_pay5, k0_pay1]
    simp only [e]
    exact (EReal.coe_sub _ _).symm

/-- The entries of a slab. -/
theorem cut_apply (v : FVec Ideal S32x2048 .bf16) (h : Fin 2) (j : Fin 8) (r : Fin 16) (x : Fin 256) :
    cut v h j (ix2 r x) = v (ix2 ⟨16 * h + r, by omega⟩ ⟨256 * j + x, by omega⟩) := by
  pointwise [cut]

/-- The right operand's rows, sixteen to a slab. -/
theorem tileA_apply (a b : FVec Ideal S32x2048 .bf16) (h : Fin 2) (r x : Fin 256) :
    tileA a b h (ix2 r x) = if hr : (hi r).1 < 8 then cut a h ⟨hi r, hr⟩ (ix2 (lo r) x)
      else cut b h ⟨hi r - 8, by omega⟩ (ix2 (lo r) x) := by
  have key := concatenate_ofFn_apply (t := S256x256) (s₁ := S16x256) 0
    (fun n : Fin 16 => if hr : n.1 < 8 then cut a h ⟨n, hr⟩ else cut b h ⟨n - 8, by omega⟩)
    concatenates_S16x256_S16x256_S16x256_S16x256_S16x256_S16x256_S16x256_S16x256_S16x256_S16x256_S16x256_S16x256_S16x256_S16x256_S16x256_S16x256_S256x256_d0
    rfl 16 rfl (ix2 r x) (hi r) rfl (ix2 (lo r) x) rfl (by
      intro b hb
      obtain rfl : b = 1 := by
        have h2 : b.1 < 2 := b.2
        have h0 : b.1 ≠ 0 := fun e => hb (Fin.ext e)
        exact Fin.ext (by show b.1 = 1; omega)
      rfl)
  refine Eq.trans ?_ (key.trans ?_)
  · rfl
  · split_ifs <;> rfl

/-- The right operand is the folded column of the sixteen points. -/
theorem tileA_half (p h : Fin 2) (u v : Vec Ideal S32x4096 .i8) (r x : Fin 256) :
    tileA (half p u) (half p v) h (ix2 r x)
      = ((foldCol p (points u ⟨16 * h + lo r, by omega⟩ x) (points v ⟨16 * h + lo r, by omega⟩ x) (hi r) : ℝ) : EReal) := by
  rw [tileA_apply, foldCol]
  split_ifs with hr <;> rw [cut_apply] <;> exact half_apply p _ ⟨16 * h + lo r, by omega⟩ _ x

/-- Stage A's product. -/
theorem prodA_apply (p h : Fin 2) (l : Vec Ideal S1x256x256 .bf16)
    (hl : ∀ r x : Fin 256, l (ix3 0 r x) = ((if lo r = lo x then laEntry p (hi r) (hi x) else 0 : ℝ) : EReal))
    (u v : Vec Ideal S32x4096 .i8) (r x : Fin 256) :
    prodA l (half p u) (half p v) h (ix2 r x)
      = ((∑ b, laEntry p (hi r) b * foldCol p (points u ⟨16 * h + lo r, by omega⟩ x) (points v ⟨16 * h + lo r, by omega⟩ x) b : ℝ) : EReal) := by
  pointwise [prodA]
  have e := sum_high_left
    (fun c => foldCol p (points u ⟨16 * h + lo c, by omega⟩ x) (points v ⟨16 * h + lo c, by omega⟩ x) (hi c)) (laEntry p) r
  simp only [lo_pack, hi_pack] at e
  rw [← e, coe_sum]
  refine Finset.sum_congr rfl fun c _ => ?_
  rw [hl, tileA_half, EReal.coe_mul]

/-- The real results of a product. -/
theorem reA_apply (o : FVec Ideal S256x256 .f32) (m : Fin 8) (r : Fin 16) (x : Fin 256) :
    reA o m (ix2 r x) = o (ix2 (pack ⟨m, by omega⟩ r) x) := by
  pointwise [reA]
  rfl

/-- The imaginary results of a product. -/
theorem imA_apply (o : FVec Ideal S256x256 .f32) (m : Fin 8) (r : Fin 16) (x : Fin 256) :
    imA o m (ix2 r x) = o (ix2 (pack ⟨m + 8, by omega⟩ r) x) := by
  have e : 128 + 16 * m.1 + r.1 = 16 * (m.1 + 8) + r.1 := by omega
  pointwise [imA]
  simp only [e]
  rfl

/-- Twiddle factors, the same on all eight rows, repeated to sixteen. -/
theorem pay16_apply (c : Vec Ideal S1x1x8x256 .f32) (T : Fin 256 → ℝ)
    (hc : ∀ (s : Fin 8) (x : Fin 256), c (ix4 0 0 s x) = (T x : EReal)) (r : Fin 16) (x : Fin 256) :
    k0_pay16 c (ix2 r x) = (T x : EReal) := by
  pointwise [k0_pay16]
  split_ifs <;> exact hc _ _

section
variable (o : FVec Ideal S256x256 .f32) (k : Fin 16) (m : Fin 8) (r : Fin 16) (x : Fin 256) (e : ℕ) (c s : Vec Ideal S1x1x8x256 .f32)
  (X Y : ℝ)

/-- The real result, turned. -/
theorem zRe_apply (hk : k.1 = 0 → e = 0) (ho : reA o m (ix2 r x) = (X : EReal)) (ho' : imA o m (ix2 r x) = (Y : EReal))
    (hc : k0_pay16 c (ix2 r x) = (Real.cos (theta e) : EReal)) (hs : k0_pay16 s (ix2 r x) = (Real.sin (theta e) : EReal)) :
    zRe k o m c s (ix2 r x) = (twRe X Y e : EReal) := by
  unfold zRe
  split_ifs with h
  · rw [ho, hk h, twRe, theta]; simp
  · pointwise []
    rw [ho, ho', hc, hs]; rfl

/-- The imaginary result, turned. -/
theorem zIm_apply (hk : k.1 = 0 → e = 0) (ho : reA o m (ix2 r x) = (X : EReal)) (ho' : imA o m (ix2 r x) = (Y : EReal))
    (hc : k0_pay16 c (ix2 r x) = (Real.cos (theta e) : EReal)) (hs : k0_pay16 s (ix2 r x) = (Real.sin (theta e) : EReal)) :
    zIm k o m c s (ix2 r x) = (twIm X Y e : EReal) := by
  unfold zIm
  split_ifs with h
  · rw [ho', hk h, twIm, theta]; simp
  · pointwise []
    rw [ho, ho', hc, hs]; rfl
end

/-- The points of row `R` of a block, by their three digits. -/
def digits (x : Vec Ideal S128x4096 .i8) (R : Fin 128) (j m n : Fin 16) : ℝ :=
  val8 (x (ix2 R ⟨256 * j + (16 * m + n), by omega⟩))

section
variable (arg1 : Memref sig .tc .vmem S128x4096 .i8) (harg1 : arg1.IsWhole)
  (arg2 : Memref sig .tc .vmem S128x4096 .i8) (harg2 : arg2.IsWhole)
  (arg4 : Memref sig .tc .vmem S2x256x256 .bf16) (harg4 : arg4.IsWhole)
  (arg6 : Memref sig .tc .vmem S4x16x8x256 .f32) (harg6 : arg6.IsWhole)
  (x0 x1 : Vec Ideal S128x4096 .i8) (x3 : Vec Ideal S2x256x256 .bf16) (x5 : Vec Ideal S4x16x8x256 .f32)

/-- A group of 32 rows, read at an index. -/
theorem rowsOf_apply (g : Fin 4) (r : Fin 32) (c : Fin 4096) :
    rowsOf arg1 harg1 x0 g (ix2 r c) = x0 (ix2 ⟨32 * g + r, by omega⟩ c) := by
  rw [rowsOf, Memref.IsWhole.readAt_unread]
  pointwise []

/-- A matrix of the first stage, read at an index. -/
theorem laOf_apply (p : Fin 2) (r c : Fin 256) : laOf arg4 harg4 x3 p (ix3 0 r c) = x3 (ix3 p r c) := by
  rw [laOf, Memref.IsWhole.readAt_unread]
  pointwise []

/-- A slice of the twiddle table, read at an index. -/
theorem twOf_apply (t : Fin 4) (k : Fin 16) (s : Fin 8) (x : Fin 256) : twOf arg6 harg6 x5 t k (ix4 0 0 s x) = x5 (ix4 t k s x) := by
  rw [twOf, Memref.IsWhole.readAt_unread]
  pointwise []

/-- The points of a row of 32 are those of its row of the block. -/
theorem points_rowsOf (g : Fin 4) (r : Fin 32) (R : Fin 128) (hR : R.1 = 32 * g + r) (x : Fin 256) :
    points (rowsOf arg1 harg1 x0 g) r x = fun j => digits x0 R j (hi x) (lo x) := by
  funext j
  have hb : 32 * g.1 + r.1 < 128 := by clear hR; omega
  obtain rfl : R = ⟨32 * g + r, hb⟩ := Fin.ext hR
  rw [points, rowsOf_apply, digits]
  congr 4
  simp only [hi, lo]; omega

/-- What the tables must hold: the first stage's matrices and the twiddle factors. -/
structure TablesA : Prop where
  la : ∀ (p : Fin 2) (r x : Fin 256), x3 (ix3 p r x) = ((if lo r = lo x then laEntry p (hi r) (hi x) else 0 : ℝ) : EReal)
  cos1 : ∀ (k : Fin 16) (s : Fin 8) (x : Fin 256), x5 (ix4 0 k s x) = (Real.cos (theta (16 * k * hi x)) : EReal)
  sin1 : ∀ (k : Fin 16) (s : Fin 8) (x : Fin 256), x5 (ix4 1 k s x) = (Real.sin (theta (16 * k * hi x)) : EReal)
  cos2 : ∀ (k : Fin 16) (s : Fin 8) (x : Fin 256), x5 (ix4 2 k s x) = (Real.cos (theta (lo x * (k + 16 * hi x))) : EReal)
  sin2 : ∀ (k : Fin 16) (s : Fin 8) (x : Fin 256), x5 (ix4 3 k s x) = (Real.sin (theta (lo x * (k + 16 * hi x))) : EReal)

variable (T : TablesA x3 x5)
include T

/-- The upper half of stage A's product holds the real part of the 16-point stage. -/
theorem oA_re (g : Fin 4) (h p : Fin 2) (m : Fin 8) (r : Fin 16) (x : Fin 256) (R : Fin 128) (hR : R.1 = 32 * g + 16 * h + r) :
    reA (oA arg1 harg1 arg2 harg2 arg4 harg4 x0 x1 x3 g h p) m (ix2 r x)
      = (stRe (fun j => digits x0 R j (hi x) (lo x)) (fun j => digits x1 R j (hi x) (lo x)) (kOf p m) : EReal) := by
  rw [reA_apply, oA, prodA_apply p h _ (fun r x => by rw [laOf_apply, T.la])]
  simp only [lo_pack, hi_pack]
  rw [points_rowsOf arg1 harg1 x0 g _ R (by rw [hR]; simp only; omega), points_rowsOf arg2 harg2 x1 g _ R (by rw [hR]; simp only; omega),
    fold_re p _ _ m (kOf p m) rfl]

/-- The lower half of stage A's product holds the imaginary part of the 16-point stage. -/
theorem oA_im (g : Fin 4) (h p : Fin 2) (m : Fin 8) (r : Fin 16) (x : Fin 256) (R : Fin 128) (hR : R.1 = 32 * g + 16 * h + r) :
    imA (oA arg1 harg1 arg2 harg2 arg4 harg4 x0 x1 x3 g h p) m (ix2 r x)
      = (stIm (fun j => digits x0 R j (hi x) (lo x)) (fun j => digits x1 R j (hi x) (lo x)) (kOf p m) : EReal) := by
  rw [imA_apply, oA, prodA_apply p h _ (fun r x => by rw [laOf_apply, T.la])]
  simp only [lo_pack, hi_pack]
  rw [points_rowsOf arg1 harg1 x0 g _ R (by rw [hR]; simp only; omega), points_rowsOf arg2 harg2 x1 g _ R (by rw [hR]; simp only; omega),
    fold_im p _ _ m (kOf p m) rfl]

/-- The real results that stage A stores. -/
theorem vRe_apply (g : Fin 4) (h p : Fin 2) (m : Fin 8) (r : Fin 16) (x : Fin 256) (R : Fin 128) (hR : R.1 = 32 * g + 16 * h + r) :
    vRe arg1 harg1 arg2 harg2 arg4 harg4 arg6 harg6 x0 x1 x3 x5 g h p m (ix2 r x)
      = (aRe (digits x0 R) (digits x1 R) (kOf p m) (hi x) (lo x) : EReal) :=
  zRe_apply _ _ _ _ _ (16 * kOf p m * hi x) _ _ _ _ (fun e => by rw [e]; simp) (oA_re arg1 harg1 arg2 harg2 arg4 harg4 x0 x1 x3 x5 T g h p m r x R hR)
    (oA_im arg1 harg1 arg2 harg2 arg4 harg4 x0 x1 x3 x5 T g h p m r x R hR)
    (pay16_apply _ (fun x => Real.cos (theta (16 * kOf p m * hi x))) (fun s x => by rw [twOf_apply, T.cos1]) r x)
    (pay16_apply _ (fun x => Real.sin (theta (16 * kOf p m * hi x))) (fun s x => by rw [twOf_apply, T.sin1]) r x)

/-- The imaginary results that stage A stores. -/
theorem vIm_apply (g : Fin 4) (h p : Fin 2) (m : Fin 8) (r : Fin 16) (x : Fin 256) (R : Fin 128) (hR : R.1 = 32 * g + 16 * h + r) :
    vIm arg1 harg1 arg2 harg2 arg4 harg4 arg6 harg6 x0 x1 x3 x5 g h p m (ix2 r x)
      = (aIm (digits x0 R) (digits x1 R) (kOf p m) (hi x) (lo x) : EReal) :=
  zIm_apply _ _ _ _ _ (16 * kOf p m * hi x) _ _ _ _ (fun e => by rw [e]; simp) (oA_re arg1 harg1 arg2 harg2 arg4 harg4 x0 x1 x3 x5 T g h p m r x R hR)
    (oA_im arg1 harg1 arg2 harg2 arg4 harg4 x0 x1 x3 x5 T g h p m r x R hR)
    (pay16_apply _ (fun x => Real.cos (theta (16 * kOf p m * hi x))) (fun s x => by rw [twOf_apply, T.cos1]) r x)
    (pay16_apply _ (fun x => Real.sin (theta (16 * kOf p m * hi x))) (fun s x => by rw [twOf_apply, T.sin1]) r x)
end
end Cert.KernelIdeal.Gen
end
-- ==== Proof.StageB.lean ====
/- What the scratch buffers hold after stage A, and the values of stages B and C at an index, as real numbers. -/
module

public import proofs.«01_k».proof.Proof.StageA
public import Idealize.ShloMosaic.Lib.Pipeline.ValueKit.Tiles

@[expose] public section
set_option maxRecDepth 16384
noncomputable section
namespace Cert.KernelIdeal.Gen
open Idealize.ShloMosaic Idealize.ShloMosaic.TcCoe Idealize.ShloMosaic.Tactic Cert.Fft

/-- The list of the two halves, last first, is complete. -/
theorem all2 : ∀ h : Fin 2, h ∈ ([1, 0] : List (Fin 2)) := by decide
/-- The list of the four row groups, last first, is complete. -/
theorem all4 : ∀ h : Fin 4, h ∈ ([3, 2, 1, 0] : List (Fin 4)) := by decide
/-- The list of the sixteen slabs, last first, is complete. -/
theorem all16 : ∀ h : Fin 16, h ∈ ([15, 14, 13, 12, 11, 10, 9, 8, 7, 6, 5, 4, 3, 2, 1, 0] : List (Fin 16)) := by decide
/-- The list of the eight outputs of a parity, last first, is complete. -/
theorem all8 : ∀ h : Fin 8, h ∈ ([7, 6, 5, 4, 3, 2, 1, 0] : List (Fin 8)) := by decide

/-- Reading a 256-column slab of a buffer that stage A's stores cover. -/
theorem slabOf_piecesA (arg : Memref sig .tc .vmem S128x4096 .bf16) (v : Fin 4 → Fin 2 → Fin 2 → Fin 8 → FVec Ideal S16x256 .f32)
    (φ : Fin 128 → Fin 16 → Fin 256 → ℝ)
    (hv : ∀ g h p m r x (R : Fin 128), R.1 = 32 * g.1 + 16 * h.1 + r.1 → v g h p m (ix2 r x) = (φ R (kOf p m) x : EReal))
    (k : Fin 16) (R : Fin 128) (x : Fin 256) :
    slabOf arg (piecesA v) k (ix2 R x) = (φ R k x : EReal) := by
  let G : S128x4096.Idx → Elt Ideal .bf16 := fun y =>
    ((φ (y 0) ⟨(y 1).1 / 256, by have : (y 1).1 < 4096 := (y 1).2; omega⟩ ⟨(y 1).1 % 256, by omega⟩ : ℝ) : EReal)
  have hG : ∀ (R : Fin 128) (k : Fin 16) (x : Fin 256) (y : S128x4096.Idx), (y 0).1 = R.1 → (y 1).1 = 256 * k.1 + x.1 →
      G y = (φ R k x : EReal) := by
    intro R k x y h0 h1
    have e1 : (⟨(y 1).1 / 256, by have : (y 1).1 < 4096 := (y 1).2; omega⟩ : Fin 16) = k := Fin.ext (by simp only; omega)
    have e2 : (⟨(y 1).1 % 256, by omega⟩ : Fin 256) = x := Fin.ext (by simp only; omega)
    have e0 : y 0 = R := Fin.ext h0
    simp only [G, e1, e2, e0]
  rw [slabOf, View.readCov_eq_canon']
  refine (View.canon_apply_of_pieces G _ ?_ _ ?_).trans (hG R k x _ ?_ ?_)
  · intro pc hpc z
    simp only [piecesA, List.mem_flatMap, List.mem_map] at hpc
    obtain ⟨g, -, h, -, p, -, m, -, rfl⟩ := hpc
    have hz : ∀ z : S16x256.Idx, (shapeCast S16x256 (truncf .bf16 (v g h p m) bitsLt_bf16_f32) shapeCasts_S16x256_S16x256) z
        = G ((Rect.unit (s := S128x4096) ![32 * g.1 + 16 * h.1, 256 * (kOf p m).1] S16x256.size (inbTile g h (kOf p m))).emb z) := by
      intro z
      idx_vars z
      pointwise []
      rw [hv g h p m z0 z1 ⟨32 * g.1 + 16 * h.1 + z0.1, by omega⟩ rfl]
      refine (hG _ _ _ _ ?_ ?_).symm
      · rw [Rect.emb_apply]; simp
      · rw [Rect.emb_apply]; simp
    exact hz z
  · have hk : kOf ⟨k.1 % 2, by omega⟩ ⟨k.1 / 2, by omega⟩ = k := Fin.ext (by simp only [kOf]; omega)
    refine ⟨pieceA (v ⟨R.1 / 32, by omega⟩ ⟨R.1 / 16 % 2, by omega⟩ ⟨k.1 % 2, by omega⟩ ⟨k.1 / 2, by omega⟩)
      ⟨R.1 / 32, by omega⟩ ⟨R.1 / 16 % 2, by omega⟩ ⟨k.1 % 2, by omega⟩ ⟨k.1 / 2, by omega⟩, ?_, ?_⟩
    · simp only [piecesA, List.mem_flatMap, List.mem_map]
      exact ⟨_, all4 _, _, all2 _, _, all2 _, _, all8 _, rfl⟩
    · rw [pieceA, Rect.mem_set_unit]
      rw [hk]
      intro a
      rw [Rect.idx_unit_val]
      have hR := R.isLt
      match a with
      | ⟨0, _⟩ =>
        show 32 * (R.1 / 32) + 16 * (R.1 / 16 % 2) ≤ 0 + R.1 ∧ 0 + R.1 < 32 * (R.1 / 32) + 16 * (R.1 / 16 % 2) + 16
        omega
      | ⟨1, _⟩ =>
        show 256 * k.1 ≤ 256 * k.1 + x.1 ∧ 256 * k.1 + x.1 < 256 * k.1 + 256
        omega
  · rw [Rect.idx_unit_val]
    exact Nat.zero_add _
  · rw [Rect.idx_unit_val]
    rfl

/-- Twiddle factors, the same on all eight rows, repeated to 128. -/
theorem pay1254_apply (c : Vec Ideal S1x1x8x256 .f32) (T : Fin 256 → ℝ)
    (hc : ∀ (s : Fin 8) (x : Fin 256), c (ix4 0 0 s x) = (T x : EReal)) (r : Fin 128) (x : Fin 256) :
    k0_pay1254 c (ix2 r x) = (T x : EReal) := by
  have key := concatenate_replicate_apply (t := S128x256) (s₁ := S8x256) 0 16
    (shapeCast S8x256 c shapeCasts_S1x1x8x256_S8x256)
    concatenates_S8x256_S8x256_S8x256_S8x256_S8x256_S8x256_S8x256_S8x256_S8x256_S8x256_S8x256_S8x256_S8x256_S8x256_S8x256_S8x256_S128x256_d0
    rfl (ix2 r x) (ix2 ⟨r.1 % 8, by omega⟩ x) rfl (by
      intro b hb
      obtain rfl : b = 1 := by
        have h2 : b.1 < 2 := b.2
        have h0 : b.1 ≠ 0 := fun e => hb (Fin.ext e)
        exact Fin.ext (by show b.1 = 1; omega)
      rfl)
  refine Eq.trans ?_ (key.trans ?_)
  · rfl
  · pointwise []
    exact hc _ _

/-- The scale of a row times the constant. -/
theorem pay1250_apply (f : Vec Ideal S1x1x128 .f32) (r : Fin 128) (x : Fin 256) :
    k0_pay1250 f (ix2 r x) = f (ix3 0 0 r) * Ideal.ofBits .f32 0x35030C28#32 := by
  pointwise [k0_pay1250]
  split_ifs <;> rfl

/-- A product with a matrix that acts on the high digit. -/
theorem dotB_high (a : FVec Ideal S128x256 .bf16) (g : Vec Ideal S1x256x256 .bf16) (α : Fin 128 → Fin 256 → ℝ) (e : Fin 16 → Fin 16 → ℝ)
    (ha : ∀ r x, a (ix2 r x) = (α r x : EReal))
    (hg : ∀ r x : Fin 256, g (ix3 0 r x) = ((if lo r = lo x then e (hi r) (hi x) else 0 : ℝ) : EReal)) (r : Fin 128) (x : Fin 256) :
    dotB a g (ix2 r x) = ((∑ j, α r (pack j (lo x)) * e j (hi x) : ℝ) : EReal) := by
  pointwise [dotB]
  rw [← sum_high, coe_sum]
  refine Finset.sum_congr rfl fun c _ => ?_
  rw [ha, hg, EReal.coe_mul]

/-- A product with a matrix that acts on the low digit. -/
theorem dotB_low (a : FVec Ideal S128x256 .bf16) (g : Vec Ideal S1x256x256 .bf16) (α : Fin 128 → Fin 256 → ℝ) (e : Fin 16 → Fin 16 → ℝ)
    (ha : ∀ r x, a (ix2 r x) = (α r x : EReal))
    (hg : ∀ r x : Fin 256, g (ix3 0 r x) = ((if hi r = hi x then e (lo r) (lo x) else 0 : ℝ) : EReal)) (r : Fin 128) (x : Fin 256) :
    dotB a g (ix2 r x) = ((∑ j, α r (pack (hi x) j) * e j (lo x) : ℝ) : EReal) := by
  pointwise [dotB]
  rw [← sum_low, coe_sum]
  refine Finset.sum_congr rfl fun c _ => ?_
  rw [ha, hg, EReal.coe_mul]

/-- What the tables of the second and the third stage must hold. -/
structure TablesB (G : Fin 6 → Vec Ideal S1x256x256 .bf16) : Prop where
  high : ∀ (i : Fin 6), i.1 < 3 → ∀ r x : Fin 256, G i (ix3 0 r x) = ((if lo r = lo x then gaussEntry i (hi r) (hi x) else 0 : ℝ) : EReal)
  low : ∀ (i : Fin 6), 3 ≤ i.1 → ∀ r x : Fin 256, G i (ix3 0 r x) = ((if hi r = hi x then gaussEntry (i - 3) (lo r) (lo x) else 0 : ℝ) : EReal)

section stage
variable (s a b : FVec Ideal S128x256 .bf16) (G : Fin 6 → Vec Ideal S1x256x256 .bf16) (T : TablesB G) (α β : Fin 128 → Fin 256 → ℝ)
  (hs : ∀ r x, s (ix2 r x) = ((α r x + β r x : ℝ) : EReal)) (ha : ∀ r x, a (ix2 r x) = (α r x : EReal))
  (hb : ∀ r x, b (ix2 r x) = (β r x : EReal)) (r : Fin 128) (x : Fin 256)
include T hs

include hb in
/-- The real part of the second stage. -/
theorem gRe_high : gRe s b (G 0) (G 2) (ix2 r x)
    = (stRe (fun j => α r (pack j (lo x))) (fun j => β r (pack j (lo x))) (hi x) : EReal) := by
  have h1 := dotB_high s (G 0) (fun r x => α r x + β r x) _ hs (T.high 0 (by decide)) r x
  have h2 := dotB_high b (G 2) β _ hb (T.high 2 (by decide)) r x
  rw [← gauss_re, EReal.coe_sub]
  exact congrArg₂ (· - ·) h1 h2

include ha in
/-- The imaginary part of the second stage. -/
theorem gIm_high : gIm s a (G 0) (G 1) (ix2 r x)
    = (stIm (fun j => α r (pack j (lo x))) (fun j => β r (pack j (lo x))) (hi x) : EReal) := by
  have h1 := dotB_high s (G 0) (fun r x => α r x + β r x) _ hs (T.high 0 (by decide)) r x
  have h2 := dotB_high a (G 1) α _ ha (T.high 1 (by decide)) r x
  rw [← gauss_im, EReal.coe_add]
  exact congrArg₂ (· + ·) h1 h2

include hb in
/-- The real part of the third stage. -/
theorem gRe_low : gRe s b (G 3) (G 5) (ix2 r x)
    = (stRe (fun j => α r (pack (hi x) j)) (fun j => β r (pack (hi x) j)) (lo x) : EReal) := by
  have h1 := dotB_low s (G 3) (fun r x => α r x + β r x) _ hs (T.low 3 (by decide)) r x
  have h2 := dotB_low b (G 5) β _ hb (T.low 5 (by decide)) r x
  rw [← gauss_re, EReal.coe_sub]
  exact congrArg₂ (· - ·) h1 h2

include ha in
/-- The imaginary part of the third stage. -/
theorem gIm_low : gIm s a (G 3) (G 4) (ix2 r x)
    = (stIm (fun j => α r (pack (hi x) j)) (fun j => β r (pack (hi x) j)) (lo x) : EReal) := by
  have h1 := dotB_low s (G 3) (fun r x => α r x + β r x) _ hs (T.low 3 (by decide)) r x
  have h2 := dotB_low a (G 4) α _ ha (T.low 4 (by decide)) r x
  rw [← gauss_im, EReal.coe_add]
  exact congrArg₂ (· + ·) h1 h2
end stage

section twiddle
variable (re im : FVec Ideal S128x256 .f32) (c d : Vec Ideal S1x1x8x256 .f32) (e : Fin 256 → ℕ) (u w : ℝ)
  (hc : ∀ (s : Fin 8) (x : Fin 256), c (ix4 0 0 s x) = (Real.cos (theta (e x)) : EReal))
  (hd : ∀ (s : Fin 8) (x : Fin 256), d (ix4 0 0 s x) = (Real.sin (theta (e x)) : EReal))
  (r : Fin 128) (x : Fin 256) (hre : re (ix2 r x) = (u : EReal)) (him : im (ix2 r x) = (w : EReal))
include hc hd hre him

/-- A twiddle factor's product, the real part. -/
theorem tRe_apply : tRe re im c d (ix2 r x) = (twRe u w (e x) : EReal) := by
  have h1 := pay1254_apply c (fun x => Real.cos (theta (e x))) hc r x
  have h2 := pay1254_apply d (fun x => Real.sin (theta (e x))) hd r x
  rw [twRe, EReal.coe_sub, EReal.coe_mul, EReal.coe_mul, ← hre, ← him, ← h1, ← h2]
  rfl

/-- A twiddle factor's product, the imaginary part. -/
theorem tIm_apply : tIm re im c d (ix2 r x) = (twIm u w (e x) : EReal) := by
  have h1 := pay1254_apply c (fun x => Real.cos (theta (e x))) hc r x
  have h2 := pay1254_apply d (fun x => Real.sin (theta (e x))) hd r x
  rw [twIm, EReal.coe_add, EReal.coe_mul, EReal.coe_mul, ← hre, ← him, ← h1, ← h2]
  rfl
end twiddle

section run
variable (arg1 : Memref sig .tc .vmem S128x4096 .i8) (harg1 : arg1.IsWhole)
  (arg2 : Memref sig .tc .vmem S128x4096 .i8) (harg2 : arg2.IsWhole)
  (arg3 : Memref sig .tc .vmem S1x1x128 .f32) (harg3 : arg3.IsWhole)
  (arg4 : Memref sig .tc .vmem S2x256x256 .bf16) (harg4 : arg4.IsWhole)
  (arg5 : Memref sig .tc .vmem S6x256x256 .bf16) (harg5 : arg5.IsWhole)
  (arg6 : Memref sig .tc .vmem S4x16x8x256 .f32) (harg6 : arg6.IsWhole)
  (arg9 arg10 arg11 : Memref sig .tc .vmem S128x4096 .bf16)
  (x0 x1 : Vec Ideal S128x4096 .i8) (x2 : Vec Ideal S1x1x128 .f32) (x3 : Vec Ideal S2x256x256 .bf16)
  (x4 : Vec Ideal S6x256x256 .bf16) (x5 : Vec Ideal S4x16x8x256 .f32) (c : Dev nD)

/-- A matrix of stages B and C, read at an index. -/
theorem gaussOf_apply (i : Fin 6) (r x : Fin 256) : gaussOf arg5 harg5 x4 i (ix3 0 r x) = x4 (ix3 i r x) := by
  rw [gaussOf, Memref.IsWhole.readAt_unread]
  pointwise []

/-- The scale of a row times the constant. -/
theorem factorOf_apply (r : Fin 128) (x : Fin 256) :
    factorOf arg3 harg3 x2 (ix2 r x) = x2 (ix3 0 0 r) * Ideal.ofBits .f32 0x35030C28#32 := by
  rw [factorOf, pay1250_apply, Memref.IsWhole.readAt_unread]
  pointwise []

variable (T : TablesA x3 x5) (hG : TablesB (gaussOf arg5 harg5 x4))
section
include T

/-- A slab of the first scratch buffer: the sums of the two parts. -/
theorem slab0_apply (k : Fin 16) (R : Fin 128) (x : Fin 256) :
    slab0 arg1 harg1 arg2 harg2 arg4 harg4 arg6 harg6 arg9 x0 x1 x3 x5 c k (ix2 R x)
      = ((aRe (digits x0 R) (digits x1 R) k (hi x) (lo x) + aIm (digits x0 R) (digits x1 R) k (hi x) (lo x) : ℝ) : EReal) := by
  rw [slab0, scratch0_eq]
  refine slabOf_piecesA arg9 _ (fun R k x => aRe (digits x0 R) (digits x1 R) k (hi x) (lo x) + aIm (digits x0 R) (digits x1 R) k (hi x) (lo x))
    (fun g h p m r x R hR => ?_) k R x
  refine Eq.trans ?_ (EReal.coe_add _ _).symm
  exact congrArg₂ (· + ·) (vRe_apply arg1 harg1 arg2 harg2 arg4 harg4 arg6 harg6 x0 x1 x3 x5 T g h p m r x R hR)
    (vIm_apply arg1 harg1 arg2 harg2 arg4 harg4 arg6 harg6 x0 x1 x3 x5 T g h p m r x R hR)

/-- A slab of the second scratch buffer: the real parts. -/
theorem slab1_apply (k : Fin 16) (R : Fin 128) (x : Fin 256) :
    slab1 arg1 harg1 arg2 harg2 arg4 harg4 arg6 harg6 arg10 x0 x1 x3 x5 c k (ix2 R x)
      = (aRe (digits x0 R) (digits x1 R) k (hi x) (lo x) : EReal) := by
  rw [slab1, scratch1_eq]
  exact slabOf_piecesA arg10 _ (fun R k x => aRe (digits x0 R) (digits x1 R) k (hi x) (lo x))
    (vRe_apply arg1 harg1 arg2 harg2 arg4 harg4 arg6 harg6 x0 x1 x3 x5 T) k R x

/-- A slab of the third scratch buffer: the imaginary parts. -/
theorem slab2_apply (k : Fin 16) (R : Fin 128) (x : Fin 256) :
    slab2 arg1 harg1 arg2 harg2 arg4 harg4 arg6 harg6 arg11 x0 x1 x3 x5 c k (ix2 R x)
      = (aIm (digits x0 R) (digits x1 R) k (hi x) (lo x) : EReal) := by
  rw [slab2, scratch2_eq]
  exact slabOf_piecesA arg11 _ (fun R k x => aIm (digits x0 R) (digits x1 R) k (hi x) (lo x))
    (vIm_apply arg1 harg1 arg2 harg2 arg4 harg4 arg6 harg6 x0 x1 x3 x5 T) k R x
end

include T hG

/-- The second stage and its twiddle factors, the real part. -/
theorem uRe_apply (k : Fin 16) (R : Fin 128) (x : Fin 256) :
    uRe arg1 harg1 arg2 harg2 arg4 harg4 arg5 harg5 arg6 harg6 arg9 arg10 arg11 x0 x1 x3 x4 x5 c k (ix2 R x)
      = (bRe (aRe (digits x0 R) (digits x1 R)) (aIm (digits x0 R) (digits x1 R)) k (hi x) (lo x) : EReal) := by
  have h0 := slab0_apply arg1 harg1 arg2 harg2 arg4 harg4 arg6 harg6 arg9 x0 x1 x3 x5 c T k
  have h1 := slab1_apply arg1 harg1 arg2 harg2 arg4 harg4 arg6 harg6 arg10 x0 x1 x3 x5 c T k
  have h2 := slab2_apply arg1 harg1 arg2 harg2 arg4 harg4 arg6 harg6 arg11 x0 x1 x3 x5 c T k
  have hr := gRe_high _ _ _ hG (fun R x => aRe (digits x0 R) (digits x1 R) k (hi x) (lo x))
    (fun R x => aIm (digits x0 R) (digits x1 R) k (hi x) (lo x)) h0 h2 R x
  have hi' := gIm_high _ _ _ hG (fun R x => aRe (digits x0 R) (digits x1 R) k (hi x) (lo x))
    (fun R x => aIm (digits x0 R) (digits x1 R) k (hi x) (lo x)) h0 h1 R x
  simp only [hi_pack, lo_pack] at hr hi'
  exact tRe_apply _ _ _ _ (fun x => lo x * (k + 16 * hi x)) _ _ (fun s x => by rw [twOf_apply, T.cos2]) (fun s x => by rw [twOf_apply, T.sin2]) R x hr hi'

/-- The second stage and its twiddle factors, the imaginary part. -/
theorem uIm_apply (k : Fin 16) (R : Fin 128) (x : Fin 256) :
    uIm arg1 harg1 arg2 harg2 arg4 harg4 arg5 harg5 arg6 harg6 arg9 arg10 arg11 x0 x1 x3 x4 x5 c k (ix2 R x)
      = (bIm (aRe (digits x0 R) (digits x1 R)) (aIm (digits x0 R) (digits x1 R)) k (hi x) (lo x) : EReal) := by
  have h0 := slab0_apply arg1 harg1 arg2 harg2 arg4 harg4 arg6 harg6 arg9 x0 x1 x3 x5 c T k
  have h1 := slab1_apply arg1 harg1 arg2 harg2 arg4 harg4 arg6 harg6 arg10 x0 x1 x3 x5 c T k
  have h2 := slab2_apply arg1 harg1 arg2 harg2 arg4 harg4 arg6 harg6 arg11 x0 x1 x3 x5 c T k
  have hr := gRe_high _ _ _ hG (fun R x => aRe (digits x0 R) (digits x1 R) k (hi x) (lo x))
    (fun R x => aIm (digits x0 R) (digits x1 R) k (hi x) (lo x)) h0 h2 R x
  have hi' := gIm_high _ _ _ hG (fun R x => aRe (digits x0 R) (digits x1 R) k (hi x) (lo x))
    (fun R x => aIm (digits x0 R) (digits x1 R) k (hi x) (lo x)) h0 h1 R x
  simp only [hi_pack, lo_pack] at hr hi'
  exact tIm_apply _ _ _ _ (fun x => lo x * (k + 16 * hi x)) _ _ (fun s x => by rw [twOf_apply, T.cos2]) (fun s x => by rw [twOf_apply, T.sin2]) R x hr hi'

/-- A slab of the real result: the transform times the row's scale. -/
theorem lastRe_apply (k : Fin 16) (R : Fin 128) (x : Fin 256) :
    lastRe (factorOf arg3 harg3 x2) (uRe arg1 harg1 arg2 harg2 arg4 harg4 arg5 harg5 arg6 harg6 arg9 arg10 arg11 x0 x1 x3 x4 x5 c k)
        (uIm arg1 harg1 arg2 harg2 arg4 harg4 arg5 harg5 arg6 harg6 arg9 arg10 arg11 x0 x1 x3 x4 x5 c k) (gaussOf arg5 harg5 x4) (ix2 R x)
      = (outRe (digits x0 R) (digits x1 R) k (hi x) (lo x) : EReal) * (x2 (ix3 0 0 R) * Ideal.ofBits .f32 0x35030C28#32) := by
  have h1 := uRe_apply arg1 harg1 arg2 harg2 arg4 harg4 arg5 harg5 arg6 harg6 arg9 arg10 arg11 x0 x1 x3 x4 x5 c T hG k
  have h2 := uIm_apply arg1 harg1 arg2 harg2 arg4 harg4 arg5 harg5 arg6 harg6 arg9 arg10 arg11 x0 x1 x3 x4 x5 c T hG k
  have hr := gRe_low (truncf .bf16 (addf (uRe arg1 harg1 arg2 harg2 arg4 harg4 arg5 harg5 arg6 harg6 arg9 arg10 arg11 x0 x1 x3 x4 x5 c k)
      (uIm arg1 harg1 arg2 harg2 arg4 harg4 arg5 harg5 arg6 harg6 arg9 arg10 arg11 x0 x1 x3 x4 x5 c k)) bitsLt_bf16_f32) _ _ hG
    (fun R x => bRe (aRe (digits x0 R) (digits x1 R)) (aIm (digits x0 R) (digits x1 R)) k (hi x) (lo x))
    (fun R x => bIm (aRe (digits x0 R) (digits x1 R)) (aIm (digits x0 R) (digits x1 R)) k (hi x) (lo x))
    (fun R x => (congrArg₂ (· + ·) (h1 R x) (h2 R x)).trans (EReal.coe_add _ _).symm) h2 R x
  simp only [hi_pack, lo_pack] at hr
  exact congrArg₂ (· * ·) hr (factorOf_apply arg3 harg3 x2 R x)

/-- A slab of the imaginary result: the transform times the row's scale. -/
theorem lastIm_apply (k : Fin 16) (R : Fin 128) (x : Fin 256) :
    lastIm (factorOf arg3 harg3 x2) (uRe arg1 harg1 arg2 harg2 arg4 harg4 arg5 harg5 arg6 harg6 arg9 arg10 arg11 x0 x1 x3 x4 x5 c k)
        (uIm arg1 harg1 arg2 harg2 arg4 harg4 arg5 harg5 arg6 harg6 arg9 arg10 arg11 x0 x1 x3 x4 x5 c k) (gaussOf arg5 harg5 x4) (ix2 R x)
      = (outIm (digits x0 R) (digits x1 R) k (hi x) (lo x) : EReal) * (x2 (ix3 0 0 R) * Ideal.ofBits .f32 0x35030C28#32) := by
  have h1 := uRe_apply arg1 harg1 arg2 harg2 arg4 harg4 arg5 harg5 arg6 harg6 arg9 arg10 arg11 x0 x1 x3 x4 x5 c T hG k
  have h2 := uIm_apply arg1 harg1 arg2 harg2 arg4 harg4 arg5 harg5 arg6 harg6 arg9 arg10 arg11 x0 x1 x3 x4 x5 c T hG k
  have hr := gIm_low (truncf .bf16 (addf (uRe arg1 harg1 arg2 harg2 arg4 harg4 arg5 harg5 arg6 harg6 arg9 arg10 arg11 x0 x1 x3 x4 x5 c k)
      (uIm arg1 harg1 arg2 harg2 arg4 harg4 arg5 harg5 arg6 harg6 arg9 arg10 arg11 x0 x1 x3 x4 x5 c k)) bitsLt_bf16_f32)
    (truncf .bf16 (uRe arg1 harg1 arg2 harg2 arg4 harg4 arg5 harg5 arg6 harg6 arg9 arg10 arg11 x0 x1 x3 x4 x5 c k) bitsLt_bf16_f32) _ hG
    (fun R x => bRe (aRe (digits x0 R) (digits x1 R)) (aIm (digits x0 R) (digits x1 R)) k (hi x) (lo x))
    (fun R x => bIm (aRe (digits x0 R) (digits x1 R)) (aIm (digits x0 R) (digits x1 R)) k (hi x) (lo x))
    (fun R x => (congrArg₂ (· + ·) (h1 R x) (h2 R x)).trans (EReal.coe_add _ _).symm) h1 R x
  simp only [hi_pack, lo_pack] at hr
  exact congrArg₂ (· * ·) hr (factorOf_apply arg3 harg3 x2 R x)
end run

/-- What the sixteen stores into an output leave at an index. -/
theorem canon_piecesB (v : Fin 16 → FVec Ideal S128x256 .f32) (G : S128x4096.Idx → EReal)
    (hv : ∀ (k : Fin 16) (R : Fin 128) (x : Fin 256), v k (ix2 R x) = G (ix2 R ⟨256 * k + x, by omega⟩)) (y : S128x4096.Idx) :
    View.canon (Val := Elt Ideal) (piecesB v) y = G y := by
  have hy : (y 1).1 < 4096 := (y 1).isLt
  refine View.canon_apply_of_pieces (Val := Elt Ideal) (e := .f32) G _ ?_ _ ?_
  · intro pc hpc z
    simp only [piecesB, List.mem_map] at hpc
    obtain ⟨k, -, rfl⟩ := hpc
    have hz : ∀ z : S128x256.Idx, v k z = G ((Rect.unit (s := S128x4096) ![0, 256 * k.1] S128x256.size (inbSlab k)).emb z) := by
      intro z
      idx_vars z
      rw [hv]
      congr 1
      funext a
      apply Fin.ext
      rw [Rect.emb_apply]
      match a with
      | ⟨0, _⟩ => simp
      | ⟨1, _⟩ => simp
    exact hz z
  · refine ⟨⟨Rect.unit (s := S128x4096) ![0, 256 * ((y 1).1 / 256)] S128x256.size (inbSlab ⟨(y 1).1 / 256, by omega⟩), v ⟨(y 1).1 / 256, by omega⟩⟩, ?_, ?_⟩
    · simp only [piecesB, List.mem_map]
      exact ⟨⟨(y 1).1 / 256, by omega⟩, all16 _, rfl⟩
    · rw [Rect.mem_set_unit]
      intro a
      match a with
      | ⟨0, _⟩ =>
        show 0 ≤ (y 0).1 ∧ (y 0).1 < 0 + 128
        have : (y 0).1 < 128 := (y 0).isLt
        exact ⟨Nat.zero_le _, by omega⟩
      | ⟨1, _⟩ =>
        show 256 * ((y 1).1 / 256) ≤ (y 1).1 ∧ (y 1).1 < 256 * ((y 1).1 / 256) + 256
        omega

end Cert.KernelIdeal.Gen
end
-- ==== Proof.Tables.lean ====
/- The tables the host program builds before the kernel runs, each written as one term: the Fourier matrices `c` and `d` of the radix-16
step, their Kronecker products with the 16×16 identity, and the twiddle factors. Every theorem says that a buffer the kernel reads holds
the term of that name. -/
module

public import proofs.«01_k».proof.Proof.Gen.KernelIdeal.Frame

@[expose] public section
set_option maxRecDepth 16384
noncomputable section
namespace Cert.KernelIdeal.Gen
open Idealize.ShloMosaic Idealize.ShloMosaic.TcCoe Idealize.ShloMosaic.Tactic
variable {F : FTy → Type} [FloatOps F]
variable (m : (ℓ : Loc nD τ sig) → Buf (Elt F) ℓ)

/-- The products `j * k` of the indices of a 16×16 table. -/
def prodTab : Vec F S16x16 .i32 := muli
  (broadcastInDim S16x16 ![0, 1] bcast_S16x1_S16x16_0_1 (broadcastInDim S16x1 ![0] bcast_S16_S16x1_0 (iotaInDim S16 32 0)))
  (broadcastInDim S16x16 ![0, 1] bcast_S1x16_S16x16_0_1 (broadcastInDim S1x16 ![1] bcast_S16_S1x16_1 (iotaInDim S16 32 0)))

/-- The modulus 16, put in place of a zero modulus as the remainder does. -/
def modulus : Vec F S_ .i32 :=
  select (cmpi .eq (constantI S_ 32 16#32) (constantI S_ 32 0#32)) (constantI S_ 32 1#32) (constantI S_ 32 16#32)

/-- The truncated remainder of `j * k` by 16. -/
def rawRem : Vec F S16x16 .i32 := Host.remsi (prodTab (F := F)) (broadcastInDim S16x16 ![] bcast_S_S16x16 (modulus (F := F)))

/-- The remainder of `j * k` by 16 with the sign of the (modulus (F := F)). -/
def remTab : Vec F S16x16 .i32 :=
  select
    (andi
      (cmpi .ne (cmpi .slt (rawRem (F := F)) (broadcastInDim S16x16 ![] bcast_S_S16x16 (constantI S_ 32 0#32)))
        (broadcastInDim S16x16 ![] bcast_S_S16x16 (cmpi .slt (modulus (F := F)) (constantI S_ 32 0#32))))
      (cmpi .ne (rawRem (F := F)) (broadcastInDim S16x16 ![] bcast_S_S16x16 (constantI S_ 32 0#32))))
    (addi (rawRem (F := F)) (broadcastInDim S16x16 ![] bcast_S_S16x16 (modulus (F := F)))) (rawRem (F := F))

/-- The angles `2π (j k mod 16) / 16`. -/
def angleTab : Vec F S16x16 .f32 :=
  Host.divf (mulf (broadcastInDim S16x16 ![] bcast_S_S16x16 (constant S_ .f32 0x40C90FDB#32)) (sitofp .f32 (remTab (F := F))))
    (broadcastInDim S16x16 ![] bcast_S_S16x16 (constant S_ .f32 0x41800000#32))

/-- The matrix `c`: 127 times the cosine, rounded. -/
def cTab : Vec F S16x16 .f32 :=
  Host.roundeven (mulf (broadcastInDim S16x16 ![] bcast_S_S16x16 (constant S_ .f32 0x42FE0000#32)) (Host.cos angleTab))

/-- The matrix `d`: minus 127 times the sine, rounded. -/
def dTab : Vec F S16x16 .f32 :=
  Host.negf (Host.roundeven (mulf (broadcastInDim S16x16 ![] bcast_S_S16x16 (constant S_ .f32 0x42FE0000#32)) (Host.sin angleTab)))

/-- The 16×16 identity. -/
def eyeTab : Vec F S16x16 .f32 :=
  uitofp .f32 (cmpi .eq (addi (iotaInDim S16x16 32 0) (broadcastInDim S16x16 ![] bcast_S_S16x16 (constantI S_ 32 0#32))) (iotaInDim S16x16 32 1))

/-- The Kronecker product of an 8×8 matrix and a 16×16 one. -/
def kronS (a : Vec F S8x8 .f32) (e : Vec F S16x16 .f32) : Vec F S128x128 .f32 :=
  shapeCast S128x128
    (mulf
      (broadcastInDim S8x16x8x16 ![0, 1, 2, 3] bcast_S8x1x8x1_S8x16x8x16_0_1_2_3 (broadcastInDim S8x1x8x1 ![0, 2] bcast_S8x8_S8x1x8x1_0_2 a))
      (broadcastInDim S8x16x8x16 ![0, 1, 2, 3] bcast_S1x16x1x16_S8x16x8x16_0_1_2_3 (broadcastInDim S1x16x1x16 ![1, 3] bcast_S16x16_S1x16x1x16_1_3 e)))
    shapeCasts_S8x16x8x16_S128x128

/-- The Kronecker product of two 16×16 matrices. -/
def kronL (a e : Vec F S16x16 .f32) : Vec F S256x256 .f32 :=
  shapeCast S256x256
    (mulf
      (broadcastInDim S16x16x16x16 ![0, 1, 2, 3] bcast_S16x1x16x1_S16x16x16x16_0_1_2_3 (broadcastInDim S16x1x16x1 ![0, 2] bcast_S16x16_S16x1x16x1_0_2 a))
      (broadcastInDim S16x16x16x16 ![0, 1, 2, 3] bcast_S1x16x1x16_S16x16x16x16_0_1_2_3 (broadcastInDim S1x16x1x16 ![1, 3] bcast_S16x16_S1x16x1x16_1_3 e)))
    shapeCasts_S16x16x16x16_S256x256

/-- The even columns of the first eight rows, transposed. -/
def evenCut (x : Vec F S16x16 .f32) : Vec F S8x8 .f32 :=
  transpose S8x8 [1, 0] (Host.slice S8x8 ![0, 0] ![1, 2] x slicesBy_S16x16_S8x8_0s1_0s2) transposes_S8x8_S8x8_1_0

/-- The odd columns of the first eight rows, transposed. -/
def oddCut (x : Vec F S16x16 .f32) : Vec F S8x8 .f32 :=
  transpose S8x8 [1, 0] (Host.slice S8x8 ![0, 1] ![1, 2] x slicesBy_S16x16_S8x8_0s1_1s2) transposes_S8x8_S8x8_1_0

/-- The complex product matrix of the first stage, `[c, -d; d, c]`, each entry a multiple of the identity. -/
def stageTab (c d : Vec F S8x8 .f32) : Vec F S256x256 .f32 :=
  concatenate S256x256 0
    [⟨S128x256, concatenate S128x256 1 [⟨S128x128, kronS c eyeTab⟩, ⟨S128x128, kronS (Host.negf d) eyeTab⟩] concatenates_S128x128_S128x128_S128x256_d1⟩,
     ⟨S128x256, concatenate S128x256 1 [⟨S128x128, kronS d eyeTab⟩, ⟨S128x128, kronS c eyeTab⟩] concatenates_S128x128_S128x128_S128x256_d1⟩]
    concatenates_S128x256_S128x256_S256x256_d0

/-- The two matrices of the first stage: even outputs, then odd ones. -/
def laTab : Vec F S2x256x256 .bf16 :=
  truncf .bf16
    (concatenate S2x256x256 0
      [⟨S1x256x256, broadcastInDim S1x256x256 ![1, 2] bcast_S256x256_S1x256x256_1_2 (stageTab (evenCut cTab) (evenCut dTab))⟩,
       ⟨S1x256x256, broadcastInDim S1x256x256 ![1, 2] bcast_S256x256_S1x256x256_1_2 (stageTab (oddCut cTab) (oddCut dTab))⟩]
      concatenates_S1x256x256_S1x256x256_S2x256x256_d0)
    bitsLt_bf16_f32

/-- A 256×256 matrix as one entry of a stack. -/
def layer (x : Vec F S256x256 .f32) : Vec F S1x256x256 .f32 :=
  broadcastInDim S1x256x256 ![1, 2] bcast_S256x256_S1x256x256_1_2 x

/-- The six matrices of the second and third stage: `c`, `d - c`, `c + d` acting on the high digit, then on the low digit. -/
def gaussTab : Vec F S6x256x256 .bf16 :=
  truncf .bf16
    (concatenate S6x256x256 0
      [⟨S1x256x256, layer (kronL cTab eyeTab)⟩, ⟨S1x256x256, layer (kronL (subf dTab cTab) eyeTab)⟩,
       ⟨S1x256x256, layer (kronL (addf cTab dTab) eyeTab)⟩, ⟨S1x256x256, layer (kronL eyeTab cTab)⟩,
       ⟨S1x256x256, layer (kronL eyeTab (subf dTab cTab))⟩, ⟨S1x256x256, layer (kronL eyeTab (addf cTab dTab))⟩]
      concatenates_S1x256x256_S1x256x256_S1x256x256_S1x256x256_S1x256x256_S1x256x256_S6x256x256_d0)
    bitsLt_bf16_f32

/-- The exponents `16 k m` of the first twiddle factors, at row `k` and lane `16 m + n`. -/
def exp1 : Vec F S16x256 .i32 :=
  shapeCast S16x256
    (broadcastInDim S16x16x16 ![0, 1] bcast_S16x16_S16x16x16_0_1
      (muli
        (broadcastInDim S16x16 ![0, 1] bcast_S16x1_S16x16_0_1
          (muli (broadcastInDim S16x1 ![] bcast_S_S16x1 (constantI S_ 32 16#32)) (broadcastInDim S16x1 ![0] bcast_S16_S16x1_0 (iotaInDim S16 32 0))))
        (broadcastInDim S16x16 ![0, 1] bcast_S1x16_S16x16_0_1 (broadcastInDim S1x16 ![1] bcast_S16_S1x16_1 (iotaInDim S16 32 0)))))
    shapeCasts_S16x16x16_S16x256

/-- The exponents `n (k + 16 l)` of the second twiddle factors, at row `k` and lane `16 l + n`. -/
def exp2 : Vec F S16x256 .i32 :=
  shapeCast S16x256
    (muli
      (broadcastInDim S16x16x16 ![0, 1, 2] bcast_S1x1x16_S16x16x16_0_1_2 (broadcastInDim S1x1x16 ![2] bcast_S16_S1x1x16_2 (iotaInDim S16 32 0)))
      (broadcastInDim S16x16x16 ![0, 1, 2] bcast_S16x16x1_S16x16x16_0_1_2
        (addi
          (broadcastInDim S16x16x1 ![0, 1, 2] bcast_S16x1x1_S16x16x1_0_1_2 (broadcastInDim S16x1x1 ![0] bcast_S16_S16x1x1_0 (iotaInDim S16 32 0)))
          (broadcastInDim S16x16x1 ![0, 1, 2] bcast_S1x16x1_S16x16x1_0_1_2
            (muli (broadcastInDim S1x16x1 ![] bcast_S_S1x16x1 (constantI S_ 32 16#32)) (broadcastInDim S1x16x1 ![1] bcast_S16_S1x16x1_1 (iotaInDim S16 32 0)))))))
    shapeCasts_S16x16x16_S16x256

/-- The angles `-2π e / 4096` of exponents `e`. -/
def twAngle (e : Vec F S16x256 .i32) : Vec F S16x256 .f32 :=
  Host.divf (mulf (broadcastInDim S16x256 ![] bcast_S_S16x256 (constant S_ .f32 0xC0C90FDB#32)) (sitofp .f32 e))
    (broadcastInDim S16x256 ![] bcast_S_S16x256 (constant S_ .f32 0x45800000#32))

/-- A 16×256 table as one entry of a stack. -/
def twLayer (x : Vec F S16x256 .f32) : Vec F S1x16x256 .f32 :=
  broadcastInDim S1x16x256 ![1, 2] bcast_S16x256_S1x16x256_1_2 x

/-- The twiddle factors: cosine and sine of the first ones, then of the second ones, each row repeated eight times. -/
def twTab : Vec F S4x16x8x256 .f32 :=
  shapeCast S4x16x8x256
    (broadcastInDim S4x16x1x8x256 ![0, 1, 2, 4] bcast_S4x16x1x256_S4x16x1x8x256_0_1_2_4
      (broadcastInDim S4x16x1x256 ![0, 1, 3] bcast_S4x16x256_S4x16x1x256_0_1_3
        (concatenate S4x16x256 0
          [⟨S1x16x256, twLayer (Host.cos (twAngle (exp1 (F := F))))⟩, ⟨S1x16x256, twLayer (Host.sin (twAngle (exp1 (F := F))))⟩,
           ⟨S1x16x256, twLayer (Host.cos (twAngle (exp2 (F := F))))⟩, ⟨S1x16x256, twLayer (Host.sin (twAngle (exp2 (F := F))))⟩]
          concatenates_S1x16x256_S1x16x256_S1x16x256_S1x16x256_S4x16x256_d0)))
    shapeCasts_S4x16x1x8x256_S4x16x8x256

/-- The kernel's fourth input is the table of the first stage. -/
theorem la_eq (c : Dev nD) : V m c main_v54 = laTab (F := F) := by sl_kernel_rfl

/-- The kernel's fifth input is the table of the second and third stage. -/
theorem gauss_eq (c : Dev nD) : V m c main_v97 = gaussTab (F := F) := by sl_kernel_rfl

/-- The kernel's sixth input is the table of twiddle factors. -/
theorem tw_eq (c : Dev nD) : V m c main_v142 = twTab (F := F) := by sl_kernel_rfl

/-- The kernel's first input is the real part, its rows counted through both leading axes. -/
theorem xre_eq (c : Dev nD) :
    V m c main_v143 = shapeCast _ (m (c, Proc.devRef .tc main_arg0)) shapeCasts_S10x1024x4096_S10240x4096 := by sl_kernel_rfl

/-- The kernel's second input is the imaginary part, its rows counted through both leading axes. -/
theorem xim_eq (c : Dev nD) :
    V m c main_v144 = shapeCast _ (m (c, Proc.devRef .tc main_arg1)) shapeCasts_S10x1024x4096_S10240x4096 := by sl_kernel_rfl

/-- The kernel's third input is the scales, 128 to a block. -/
theorem scale_eq (c : Dev nD) :
    V m c main_v145 = shapeCast _ (m (c, Proc.devRef .tc main_arg2)) shapeCasts_S10x1024_S80x1x128 := by sl_kernel_rfl

end Cert.KernelIdeal.Gen
end
-- ==== Proof.TablesAt.lean ====
/- The entries of the tables, as real numbers. -/
module

public import proofs.«01_k».proof.Proof.Tables
public import proofs.«01_k».proof.Proof.Consts
public import Idealize.ShloMosaic.Lib.Pointwise

@[expose] public section
set_option maxRecDepth 16384
noncomputable section
namespace Cert.KernelIdeal.Gen
open Idealize.ShloMosaic Idealize.ShloMosaic.TcCoe Idealize.ShloMosaic.Tactic Cert.Fft

/-- The remainders. -/
theorem remTab_apply : ∀ j k : Fin 16, remTab (F := Ideal) (ix2 j k) = BitVec.ofNat 32 (j.1 * k.1 % 16) := by
  intro j k
  pointwise [remTab, rawRem, modulus, prodTab]
  revert j k
  decide +kernel

/-- The identity's entries. -/
theorem eyeTab_apply (j k : Fin 16) : eyeTab (F := Ideal) (ix2 j k) = ((if j = k then 1 else 0 : ℝ) : EReal) := by
  pointwise [eyeTab]
  show (((IntOp.cmpi CmpIPredicate.eq (IntOp.addi (BitVec.ofNat 32 ↑j) 0#32) (BitVec.ofNat 32 ↑k)).toNat : ℝ) : EReal) = _
  congr 1
  have h : ∀ j k : Fin 16, (IntOp.cmpi CmpIPredicate.eq (IntOp.addi (BitVec.ofNat 32 ↑j) 0#32) (BitVec.ofNat 32 ↑k)).toNat
      = if j = k then 1 else 0 := by decide +kernel
  rw [h]
  split_ifs <;> simp

/-- The rounded cosines. -/
theorem cTab_apply (j k : Fin 16) : cTab (F := Ideal) (ix2 j k) = ((cc j k : ℝ) : EReal) := by
  pointwise [cTab, angleTab]
  rw [remTab_apply, sitofp_nat _ (by omega), ofBits_twoPi, ofBits_sixteen, ofBits_127, angle_div, Ideal.cos_coe, ← EReal.coe_mul,
    Ideal.liftRound_coe, round_cc]

/-- Minus the rounded sines. -/
theorem dTab_apply (j k : Fin 16) : dTab (F := Ideal) (ix2 j k) = ((dd j k : ℝ) : EReal) := by
  pointwise [dTab, angleTab]
  rw [remTab_apply, sitofp_nat _ (by omega), ofBits_twoPi, ofBits_sixteen, ofBits_127, angle_div, Ideal.sin_coe, ← EReal.coe_mul,
    Ideal.liftRound_coe, ← EReal.coe_neg, ← Int.cast_neg, round_dd]

/-- A number times an entry of the identity matrix. -/
theorem mul_ite_one (x : ℝ) (P : Prop) [Decidable P] : ((x : ℝ) : EReal) * ((if P then 1 else 0 : ℝ) : EReal) = ((if P then x else 0 : ℝ) : EReal) := by
  rw [← EReal.coe_mul]; congr 1; split_ifs <;> simp

/-- The entries of a Kronecker product of an 8×8 matrix by the identity. -/
theorem kronS_eye (a : Vec Ideal S8x8 .f32) (f : ℕ → ℕ → ℝ) (ha : ∀ i j : Fin 8, a (ix2 i j) = ((f i j : ℝ) : EReal)) (r x : Fin 128) :
    kronS a eyeTab (ix2 r x) = ((if r.1 % 16 = x.1 % 16 then f (r / 16) (x / 16) else 0 : ℝ) : EReal) := by
  pointwise [kronS]
  rw [eyeTab_apply, ha]
  refine (mul_ite_one _ _).trans ?_
  simp only [Fin.mk.injEq]

/-- The entries of a Kronecker product of a 16×16 matrix by the identity. -/
theorem kronL_eye (a : Vec Ideal S16x16 .f32) (f : Fin 16 → Fin 16 → ℝ) (ha : ∀ i j : Fin 16, a (ix2 i j) = ((f i j : ℝ) : EReal))
    (r x : Fin 256) : kronL a eyeTab (ix2 r x) = ((if lo r = lo x then f (hi r) (hi x) else 0 : ℝ) : EReal) := by
  pointwise [kronL]
  rw [eyeTab_apply, ha]
  exact mul_ite_one _ _

/-- The entries of a Kronecker product of the identity by a 16×16 matrix. -/
theorem kronL_eye_left (a : Vec Ideal S16x16 .f32) (f : Fin 16 → Fin 16 → ℝ) (ha : ∀ i j : Fin 16, a (ix2 i j) = ((f i j : ℝ) : EReal))
    (r x : Fin 256) : kronL eyeTab a (ix2 r x) = ((if hi r = hi x then f (lo r) (lo x) else 0 : ℝ) : EReal) := by
  pointwise [kronL]
  rw [eyeTab_apply, ha]
  exact (mul_comm _ _).trans (mul_ite_one _ _)

/-- The entries of the even columns of a table, transposed. -/
theorem evenCut_apply (t : Vec Ideal S16x16 .f32) (a b : Fin 8) : evenCut t (ix2 a b) = t (ix2 ⟨b, by omega⟩ ⟨2 * a, by omega⟩) := by
  pointwise [evenCut]
/-- The entries of the odd columns of a table, transposed. -/
theorem oddCut_apply (t : Vec Ideal S16x16 .f32) (a b : Fin 8) : oddCut t (ix2 a b) = t (ix2 ⟨b, by omega⟩ ⟨2 * a + 1, by omega⟩) := by
  pointwise [oddCut]
  simp only [Nat.add_comm 1]

/-- The matrix of the first stage from halved tables `c` and `d` of real numbers. -/
theorem stageTab_apply (p : Fin 2) (c d : Vec Ideal S8x8 .f32)
    (hc : ∀ a b : Fin 8, c (ix2 a b) = ((cc b (2 * a + p) : ℝ) : EReal))
    (hd : ∀ a b : Fin 8, d (ix2 a b) = ((dd b (2 * a + p) : ℝ) : EReal)) (r x : Fin 256) :
    stageTab c d (ix2 r x) = ((if lo r = lo x then laEntry p (hi r) (hi x) else 0 : ℝ) : EReal) := by
  have hn : ∀ a b : Fin 8, (Host.negf d : FVec Ideal S8x8 .f32) (ix2 a b) = ((-(dd b (2 * a + p) : ℝ) : ℝ) : EReal) := by
    intro a b
    pointwise []
    rw [hd]; rfl
  have ir : r.1 < 128 ↔ r.1 / 16 < 8 := by omega
  have ix : x.1 < 128 ↔ x.1 / 16 < 8 := by omega
  have er : r.1 / 16 - 8 = (r.1 - 128) / 16 := by omega
  have ex : x.1 / 16 - 8 = (x.1 - 128) / 16 := by omega
  pointwise [stageTab]
  simp only [laEntry, hi, lo, ← ir, ← ix, er, ex, Fin.mk.injEq]
  by_cases h1 : r.1 < 128 <;> by_cases h2 : x.1 < 128 <;> simp only [h1, h2, ↓reduceDIte, if_true, if_false]
  · exact kronS_eye c (fun a b => (cc b (2 * a + p) : ℝ)) hc _ _
  · refine (kronS_eye (Host.negf (F := Ideal) (φ := .f32) d) (fun a b => -(dd b (2 * a + p) : ℝ)) hn _ _).trans ?_
    congr 1; exact if_congr (by simp only; omega) rfl rfl
  · refine (kronS_eye d (fun a b => (dd b (2 * a + p) : ℝ)) hd _ _).trans ?_
    congr 1; exact if_congr (by simp only; omega) rfl rfl
  · refine (kronS_eye c (fun a b => (cc b (2 * a + p) : ℝ)) hc _ _).trans ?_
    congr 1; exact if_congr (by simp only; omega) rfl rfl

/-- The table of the first stage. -/
theorem laTab_apply (p : Fin 2) (r x : Fin 256) :
    laTab (F := Ideal) (ix3 p r x) = ((if lo r = lo x then laEntry p (hi r) (hi x) else 0 : ℝ) : EReal) := by
  pointwise [laTab]
  rw [stageTab_apply 0 (evenCut cTab) (evenCut dTab) (fun a b => by rw [evenCut_apply, cTab_apply]; rfl)
      (fun a b => by rw [evenCut_apply, dTab_apply]; rfl),
    stageTab_apply 1 (oddCut cTab) (oddCut dTab) (fun a b => by rw [oddCut_apply, cTab_apply]; rfl)
      (fun a b => by rw [oddCut_apply, dTab_apply]; rfl)]
  obtain rfl | rfl : p = 0 ∨ p = 1 := by omega
  · rfl
  · rfl

/-- The entries of the difference of the two tables. -/
theorem sub_apply (a b : Fin 16) : (subf (dTab (F := Ideal)) (cTab (F := Ideal)) : FVec Ideal S16x16 .f32) (ix2 a b) = (gaussEntry 1 a b : EReal) := by
  pointwise []
  rw [cTab_apply, dTab_apply]; rfl
/-- The entries of the sum of the two tables. -/
theorem add_apply (a b : Fin 16) : (addf (cTab (F := Ideal)) (dTab (F := Ideal)) : FVec Ideal S16x16 .f32) (ix2 a b) = (gaussEntry 2 a b : EReal) := by
  pointwise []
  rw [cTab_apply, dTab_apply]; rfl

/-- The first three matrices act on the high digit. -/
theorem gaussTab_high (i : Fin 6) (h : i.1 < 3) (r x : Fin 256) :
    gaussTab (F := Ideal) (ix3 i r x) = ((if lo r = lo x then gaussEntry i (hi r) (hi x) else 0 : ℝ) : EReal) := by
  pointwise [gaussTab, layer]
  obtain h | h | h : i.1 = 0 ∨ i.1 = 1 ∨ i.1 = 2 := by omega
  all_goals simp only [h, Nat.reduceSub, Nat.reduceLT, ↓reduceDIte]
  · exact kronL_eye cTab (gaussEntry 0) cTab_apply r x
  · exact kronL_eye (subf (F := Ideal) (φ := .f32) (dTab (F := Ideal)) (cTab (F := Ideal))) (gaussEntry 1) sub_apply r x
  · exact kronL_eye (addf (F := Ideal) (φ := .f32) (cTab (F := Ideal)) (dTab (F := Ideal))) (gaussEntry 2) add_apply r x

/-- The other three act on the low digit. -/
theorem gaussTab_low (i : Fin 6) (h : 3 ≤ i.1) (r x : Fin 256) :
    gaussTab (F := Ideal) (ix3 i r x) = ((if hi r = hi x then gaussEntry (i - 3) (lo r) (lo x) else 0 : ℝ) : EReal) := by
  pointwise [gaussTab, layer]
  obtain h | h | h : i.1 = 3 ∨ i.1 = 4 ∨ i.1 = 5 := by omega
  all_goals simp only [h, Nat.reduceSub, Nat.reduceLT, ↓reduceDIte]
  · exact kronL_eye_left cTab (gaussEntry 0) cTab_apply r x
  · exact kronL_eye_left (subf (F := Ideal) (φ := .f32) (dTab (F := Ideal)) (cTab (F := Ideal))) (gaussEntry 1) sub_apply r x
  · exact kronL_eye_left (addf (F := Ideal) (φ := .f32) (cTab (F := Ideal)) (dTab (F := Ideal))) (gaussEntry 2) add_apply r x

/-- The exponents of the first twiddle factors. -/
theorem exp1_apply (k : Fin 16) (x : Fin 256) : exp1 (F := Ideal) (ix2 k x) = BitVec.ofNat 32 (16 * k * hi x) := by
  pointwise [exp1]
  simp [IntOp.muli, hi, BitVec.ofNat_mul]

/-- The exponents of the second twiddle factors. -/
theorem exp2_apply (k : Fin 16) (x : Fin 256) :
    exp2 (F := Ideal) (ix2 k x) = BitVec.ofNat 32 (lo x * (k + 16 * hi x)) := by
  pointwise [exp2]
  simp [IntOp.muli, IntOp.addi, hi, lo, BitVec.ofNat_mul, BitVec.ofNat_add]

/-- The exponent of the twiddle factors at row `k` and lane `x`: the first ones for `t < 2`. -/
def twExp (t : ℕ) (k : Fin 16) (x : Fin 256) : ℕ := if t < 2 then 16 * k * hi x else lo x * (k + 16 * hi x)

/-- The table of twiddle factors: cosines at even `t`, sines at odd `t`. -/
theorem twTab_apply (t : Fin 4) (k : Fin 16) (s : Fin 8) (x : Fin 256) :
    twTab (F := Ideal) (ix4 t k s x)
      = ((if t.1 % 2 = 0 then Real.cos (theta (twExp t k x)) else Real.sin (theta (twExp t k x)) : ℝ) : EReal) := by
  have b1 : 16 * k.1 * (hi x).1 ≤ 16 * 15 * 15 := Nat.mul_le_mul (by omega) (by omega)
  have b2 : (lo x).1 * (k.1 + 16 * (hi x).1) ≤ 15 * 255 := Nat.mul_le_mul (by omega) (by omega)
  pointwise [twTab, twLayer, twAngle]
  rw [exp1_apply, exp2_apply, sitofp_nat _ (by omega), sitofp_nat _ (by omega), ofBits_negTwoPi, ofBits_4096, theta_div, theta_div,
    Ideal.cos_coe, Ideal.cos_coe, Ideal.sin_coe, Ideal.sin_coe]
  obtain h | h | h | h : t.1 = 0 ∨ t.1 = 1 ∨ t.1 = 2 ∨ t.1 = 3 := by omega
  all_goals
    simp only [h, Nat.reduceSub, Nat.reduceLT, ↓reduceDIte]
    rfl

end Cert.KernelIdeal.Gen
end
-- ==== Proof.RefTables.lean ====
/- The tables of the reference, as real numbers. -/
module

public import proofs.«01_k».proof.Proof.Gen.ReferenceIdeal.Read
public import proofs.«01_k».proof.Proof.Consts
public import Idealize.ShloMosaic.Lib.Pointwise

@[expose] public section
set_option maxRecDepth 16384
noncomputable section
namespace Cert.ReferenceIdeal.Read
open Cert.ReferenceIdeal Cert.ReferenceIdeal.Gen Idealize.ShloMosaic Idealize.ShloMosaic.TcCoe Idealize.ShloMosaic.Tactic Cert.Fft

/-- The float constant of the 16-point angle is a sixteenth of the constant `2π`. -/
theorem ofBits_sixteenth : Ideal.ofBits .f32 0x3EC90FDB#32 = ((twoPi / 16 : ℝ) : EReal) := by
  simp [Ideal.ofBits, Ideal.ieee, twoPi, -EReal.coe_mul]; norm_num

/-- The float constant of the twiddle angle is the constant `-2π` over 4096. -/
theorem ofBits_unit : Ideal.ofBits .f32 0xBAC90FDB#32 = ((-twoPi / 4096 : ℝ) : EReal) := by
  simp [Ideal.ofBits, Ideal.ieee, twoPi, -EReal.coe_mul]; norm_num

/-- The remainders. -/
theorem rem_apply (j k : Fin 16) : val_main_v6 (F := Ideal) (ix2 j k) = BitVec.ofNat 32 (j.1 * k.1 % 16) := by
  pointwise [val_main_v6, val_main_call0_v12, val_main_call0_v14, val_main_call0_v4, val_main_call0_v11, val_main_call0_v6,
    val_main_call0_v13, val_main_v5, val_main_call0_v3, val_main_call0_v8, val_main_call0_v10, val_main_call0_v5, val_main_call0_v2,
    val_main_v3, val_main_v4, val_main_call0_v7, val_main_call0_v9, val_main_call0_c_1, val_main_call0_v1, val_main_call0_c_0,
    val_main_call0_v0, val_main_v1, val_main_v2, val_main_call0_c_2, val_main_call0_c_3, val_main_c, val_main_call0_c, val_main_v0]
  revert j k
  decide +kernel

/-- An integer of the table, converted to 32 bits. -/
theorem fptosi_int (n : ℤ) (h : |n| ≤ 127) : Ideal.fptosi 32 (((n : ℤ) : ℝ) : EReal) = BitVec.ofInt 32 n := by
  rw [abs_le] at h
  simp [Ideal.fptosi]
  congr 1
  omega

/-- The real table's entries are small. -/
theorem abs_cc : ∀ j k : Fin 16, |cc j k| ≤ 127 := by decide
/-- The imaginary table's entries are small. -/
theorem abs_dd : ∀ j k : Fin 16, |dd j k| ≤ 127 := by decide

/-- The rounded cosines as integers. -/
theorem v14_apply (j k : Fin 16) : val_main_v14 (F := Ideal) (ix2 j k) = BitVec.ofInt 32 (cc j k) := by
  pointwise [val_main_v14, val_main_v13, val_main_v12, val_main_v11, val_main_v10, val_main_v9, val_main_v8, val_main_v7, val_main_cst,
    val_main_cst_0]
  rw [rem_apply, sitofp_nat _ (by omega), ofBits_sixteenth, ofBits_127, ← EReal.coe_mul, Ideal.cos_coe, ← EReal.coe_mul,
    Ideal.liftRound_coe]
  rw [show ((j.1 * k.1 % 16 : ℕ) : ℝ) * (twoPi / 16) = twoPi * ((j.1 * k.1 % 16 : ℕ) : ℝ) / 16 by ring, round_cc]
  exact fptosi_int _ (abs_cc j k)

/-- Minus the rounded sines as integers. -/
theorem v20_apply (j k : Fin 16) : val_main_v20 (F := Ideal) (ix2 j k) = BitVec.ofInt 32 (dd j k) := by
  pointwise [val_main_v20, val_main_v19, val_main_v18, val_main_v17, val_main_v16, val_main_v15, val_main_v9, val_main_v8, val_main_v7,
    val_main_cst, val_main_cst_1]
  rw [rem_apply, sitofp_nat _ (by omega), ofBits_sixteenth, ofBits_127, ← EReal.coe_mul, Ideal.sin_coe, ← EReal.coe_mul,
    Ideal.liftRound_coe, ← EReal.coe_neg]
  rw [show ((j.1 * k.1 % 16 : ℕ) : ℝ) * (twoPi / 16) = twoPi * ((j.1 * k.1 % 16 : ℕ) : ℝ) / 16 by ring, ← Int.cast_neg, round_dd]
  exact fptosi_int _ (abs_dd j k)

/-- The first matrix. -/
theorem v21_apply (j k : Fin 16) : val_main_v21 (F := Ideal) (ix2 j k) = ((gaussEntry 0 j k : ℝ) : EReal) := by
  pointwise [val_main_v21]
  rw [v14_apply]
  show (((BitVec.ofInt 32 (cc j k)).toInt : ℝ) : EReal) = _
  have h : ∀ j k : Fin 16, (BitVec.ofInt 32 (cc j k)).toInt = cc j k := by decide +kernel
  rw [h, gaussEntry_zero]

/-- The second matrix. -/
theorem v23_apply (j k : Fin 16) : val_main_v23 (F := Ideal) (ix2 j k) = ((gaussEntry 1 j k : ℝ) : EReal) := by
  pointwise [val_main_v23, val_main_v22]
  rw [v14_apply, v20_apply]
  show (((IntOp.subi (BitVec.ofInt 32 (dd j k)) (BitVec.ofInt 32 (cc j k))).toInt : ℝ) : EReal) = _
  have h : ∀ j k : Fin 16, (IntOp.subi (BitVec.ofInt 32 (dd j k)) (BitVec.ofInt 32 (cc j k))).toInt = dd j k - cc j k := by decide +kernel
  rw [h, gaussEntry_one, Int.cast_sub]

/-- The third matrix. -/
theorem v25_apply (j k : Fin 16) : val_main_v25 (F := Ideal) (ix2 j k) = ((gaussEntry 2 j k : ℝ) : EReal) := by
  pointwise [val_main_v25, val_main_v24]
  rw [v14_apply, v20_apply]
  show (((IntOp.addi (BitVec.ofInt 32 (cc j k)) (BitVec.ofInt 32 (dd j k))).toInt : ℝ) : EReal) = _
  have h : ∀ j k : Fin 16, (IntOp.addi (BitVec.ofInt 32 (cc j k)) (BitVec.ofInt 32 (dd j k))).toInt = cc j k + dd j k := by decide +kernel
  rw [h, gaussEntry_two, Int.cast_add]

/-- The exponents of the first twiddle factors. -/
theorem exp1 : ∀ k m : Fin 16, IntOp.muli (IntOp.muli 16#32 (BitVec.ofNat 32 k)) (BitVec.ofNat 32 m) = BitVec.ofNat 32 (16 * k * m) := by
  decide +kernel

/-- The exponents of the second twiddle factors. -/
theorem exp2 : ∀ k l n : Fin 16, IntOp.muli (BitVec.ofNat 32 n) (IntOp.addi (BitVec.ofNat 32 k) (IntOp.muli 16#32 (BitVec.ofNat 32 l)))
    = BitVec.ofNat 32 (n * (k + 16 * l)) := by
  decide +kernel

/-- The first exponents are small. -/
theorem exp1_lt : ∀ k m : Fin 16, 16 * k.1 * m.1 < 4096 := by decide +kernel
/-- The second exponents are small. -/
theorem exp2_lt : ∀ k l n : Fin 16, n.1 * (k.1 + 16 * l.1) < 4096 := by decide +kernel

/-- The first twiddle factors' cosines. -/
theorem v56_apply (k m : Fin 16) : val_main_v56 (F := Ideal) (ix3 k m 0) = (Real.cos (theta (16 * k * m)) : EReal) := by
  pointwise [val_main_v56, val_main_v55, val_main_v54, val_main_v53, val_main_v52, val_main_v51, val_main_v50, val_main_v49,
    val_main_v48, val_main_v47, val_main_v46, val_main_v45, val_main_v32, val_main_cst_3, val_main_c_2]
  rw [exp1, sitofp_nat _ (by have := exp1_lt k m; omega), ofBits_unit, ← EReal.coe_mul, Ideal.cos_coe, theta]

/-- The first twiddle factors' sines. -/
theorem v57_apply (k m : Fin 16) : val_main_v57 (F := Ideal) (ix3 k m 0) = (Real.sin (theta (16 * k * m)) : EReal) := by
  pointwise [val_main_v57, val_main_v55, val_main_v54, val_main_v53, val_main_v52, val_main_v51, val_main_v50, val_main_v49,
    val_main_v48, val_main_v47, val_main_v46, val_main_v45, val_main_v32, val_main_cst_3, val_main_c_2]
  rw [exp1, sitofp_nat _ (by have := exp1_lt k m; omega), ofBits_unit, ← EReal.coe_mul, Ideal.sin_coe, theta]

/-- The second twiddle factors' cosines. -/
theorem v98_apply (k l n : Fin 16) : val_main_v98 (F := Ideal) (ix3 k l n) = (Real.cos (theta (n * (k + 16 * l))) : EReal) := by
  pointwise [val_main_v98, val_main_v97, val_main_v96, val_main_v95, val_main_v94, val_main_v93, val_main_v92, val_main_v91, val_main_v90,
    val_main_v89, val_main_v88, val_main_v87, val_main_v86, val_main_v85, val_main_v84, val_main_v32, val_main_cst_5, val_main_c_4]
  rw [exp2, sitofp_nat _ (by have := exp2_lt k l n; omega), ofBits_unit, ← EReal.coe_mul, Ideal.cos_coe, theta]

/-- The second twiddle factors' sines. -/
theorem v99_apply (k l n : Fin 16) : val_main_v99 (F := Ideal) (ix3 k l n) = (Real.sin (theta (n * (k + 16 * l))) : EReal) := by
  pointwise [val_main_v99, val_main_v97, val_main_v96, val_main_v95, val_main_v94, val_main_v93, val_main_v92, val_main_v91, val_main_v90,
    val_main_v89, val_main_v88, val_main_v87, val_main_v86, val_main_v85, val_main_v84, val_main_v32, val_main_cst_5, val_main_c_4]
  rw [exp2, sitofp_nat _ (by have := exp2_lt k l n; omega), ofBits_unit, ← EReal.coe_mul, Ideal.sin_coe, theta]

end Cert.ReferenceIdeal.Read
end
-- ==== Proof.RefAt.lean ====
/- The reference's results at an index, as real numbers. -/
module

public import proofs.«01_k».proof.Proof.RefTables

@[expose] public section
set_option maxRecDepth 16384
noncomputable section
namespace Cert.ReferenceIdeal.Read
open Cert.ReferenceIdeal Cert.ReferenceIdeal.Gen Idealize.ShloMosaic Idealize.ShloMosaic.TcCoe Idealize.ShloMosaic.Tactic Cert.Fft

/-- The points of a token, by the three digits of their place. -/
def digits (x : Vec Ideal S10x1024x4096 .i8) (b : Fin 10) (s : Fin 1024) (j m n : Fin 16) : ℝ :=
  ((x (ix3 b s ⟨256 * j.1 + (16 * m.1 + n.1), by omega⟩)).toInt : ℝ)

/-- Two of the three products of a stage, the real part. -/
theorem products_re (x y : Fin 16 → ℝ) (k : Fin 16) :
    (∑ j : Fin 16, ((gaussEntry 0 j k : ℝ) : EReal) * ((x j : EReal) + (y j : EReal))) - ∑ j : Fin 16, ((gaussEntry 2 j k : ℝ) : EReal) * (y j : EReal)
      = (stRe x y k : EReal) := by
  rw [← gauss_re, EReal.coe_sub, coe_sum, coe_sum]
  refine congrArg₂ (· - ·) (Finset.sum_congr rfl fun j _ => ?_) (Finset.sum_congr rfl fun j _ => ?_)
  · rw [gaussEntry_zero, ← EReal.coe_add, ← EReal.coe_mul, mul_comm]
  · rw [gaussEntry_two, ← EReal.coe_mul, mul_comm]

/-- Two of the three products of a stage, the imaginary part. -/
theorem products_im (x y : Fin 16 → ℝ) (k : Fin 16) :
    (∑ j : Fin 16, ((gaussEntry 0 j k : ℝ) : EReal) * ((x j : EReal) + (y j : EReal))) + ∑ j : Fin 16, ((gaussEntry 1 j k : ℝ) : EReal) * (x j : EReal)
      = (stIm x y k : EReal) := by
  rw [← gauss_im, EReal.coe_add, coe_sum, coe_sum]
  refine congrArg₂ (· + ·) (Finset.sum_congr rfl fun j _ => ?_) (Finset.sum_congr rfl fun j _ => ?_)
  · rw [gaussEntry_zero, ← EReal.coe_add, ← EReal.coe_mul, mul_comm]
  · rw [gaussEntry_one, ← EReal.coe_mul, mul_comm]

/-- A product with a twiddle factor, the real part. -/
theorem twiddle_re (x y : ℝ) (m : ℕ) :
    (x : EReal) * (Real.cos (theta m) : EReal) - (y : EReal) * (Real.sin (theta m) : EReal) = (twRe x y m : EReal) := by
  rw [twRe, EReal.coe_sub, EReal.coe_mul, EReal.coe_mul]

/-- A product with a twiddle factor, the imaginary part. -/
theorem twiddle_im (x y : ℝ) (m : ℕ) :
    (x : EReal) * (Real.sin (theta m) : EReal) + (y : EReal) * (Real.cos (theta m) : EReal) = (twIm x y m : EReal) := by
  rw [twIm, EReal.coe_add, EReal.coe_mul, EReal.coe_mul]

/-- An 8-bit integer widened to 32 bits and read as a float. -/
theorem sitofp_widened (v : BitVec 8) : (FloatOps.sitofp (F := Ideal) FTy.f32 (v.signExtend 32) : EReal) = ((v.toInt : ℝ) : EReal) := by
  show (((v.signExtend 32).toInt : ℝ) : EReal) = _
  rw [BitVec.toInt_signExtend_of_le (by decide)]

variable (x0 x1 : Vec Ideal S10x1024x4096 .i8) (x2 : Vec Ideal S10x1024 .f32) (b : Fin 10) (s : Fin 1024)

/-- The real numbers the points are. -/
theorem v28_apply (j m n : Fin 16) : val_main_v28 (F := Ideal) x0 (ix5 b s j m n) = (digits x0 b s j m n : EReal) := by
  pointwise [val_main_v28, val_main_v27, val_main_v26]
  refine (sitofp_widened _).trans ?_
  have e : 256 * j.1 + (16 * m.1 + n.1) = j.1 * 256 + m.1 * 16 + n.1 := by omega
  simp only [digits, e]

/-- The real numbers the points are. -/
theorem v31_apply (j m n : Fin 16) : val_main_v31 (F := Ideal) x1 (ix5 b s j m n) = (digits x1 b s j m n : EReal) := by
  pointwise [val_main_v31, val_main_v30, val_main_v29]
  refine (sitofp_widened _).trans ?_
  have e : 256 * j.1 + (16 * m.1 + n.1) = j.1 * 256 + m.1 * 16 + n.1 := by omega
  simp only [digits, e]

/-- The first stage, the real part. -/
theorem v43_apply (k m n : Fin 16) :
    val_main_v43 (F := Ideal) x0 x1 (ix5 b s k m n)
      = (stRe (fun j => digits x0 b s j m n) (fun j => digits x1 b s j m n) k : EReal) := by
  pointwise [val_main_v43, val_main_v42, val_main_v41, val_main_v38, val_main_v37, val_main_v34, val_main_v36, val_main_v35]
  simp only [v21_apply, v25_apply, v28_apply, v31_apply]
  exact products_re _ _ _

/-- The first stage, the imaginary part. -/
theorem v44_apply (k m n : Fin 16) :
    val_main_v44 (F := Ideal) x0 x1 (ix5 b s k m n)
      = (stIm (fun j => digits x0 b s j m n) (fun j => digits x1 b s j m n) k : EReal) := by
  pointwise [val_main_v44, val_main_v40, val_main_v39, val_main_v38, val_main_v37, val_main_v33, val_main_v36, val_main_v35]
  simp only [v21_apply, v23_apply, v28_apply, v31_apply]
  exact products_im _ _ _

/-- The first stage and its twiddle factors, the real part. -/
theorem v64_apply (k m n : Fin 16) :
    val_main_v64 (F := Ideal) x0 x1 (ix5 b s k m n) = (aRe (digits x0 b s) (digits x1 b s) k m n : EReal) := by
  pointwise [val_main_v64, val_main_v63, val_main_v62, val_main_v61, val_main_v60, val_main_v59, val_main_v58]
  rw [v43_apply, v44_apply, v56_apply, v57_apply]
  exact twiddle_re _ _ _

/-- The first stage and its twiddle factors, the imaginary part. -/
theorem v71_apply (k m n : Fin 16) :
    val_main_v71 (F := Ideal) x0 x1 (ix5 b s k m n) = (aIm (digits x0 b s) (digits x1 b s) k m n : EReal) := by
  pointwise [val_main_v71, val_main_v70, val_main_v69, val_main_v68, val_main_v67, val_main_v66, val_main_v65]
  rw [v43_apply, v44_apply, v56_apply, v57_apply]
  exact twiddle_im _ _ _

/-- The second stage, the real part. -/
theorem v82_apply (k l n : Fin 16) :
    val_main_v82 (F := Ideal) x0 x1 (ix5 b s k l n)
      = (stRe (fun j => aRe (digits x0 b s) (digits x1 b s) k j n) (fun j => aIm (digits x0 b s) (digits x1 b s) k j n) l : EReal) := by
  pointwise [val_main_v82, val_main_v81, val_main_v80, val_main_v77, val_main_v76, val_main_v73, val_main_v75, val_main_v74]
  simp only [v21_apply, v25_apply, v64_apply, v71_apply]
  exact products_re _ _ _

/-- The second stage, the imaginary part. -/
theorem v83_apply (k l n : Fin 16) :
    val_main_v83 (F := Ideal) x0 x1 (ix5 b s k l n)
      = (stIm (fun j => aRe (digits x0 b s) (digits x1 b s) k j n) (fun j => aIm (digits x0 b s) (digits x1 b s) k j n) l : EReal) := by
  pointwise [val_main_v83, val_main_v79, val_main_v78, val_main_v77, val_main_v76, val_main_v72, val_main_v75, val_main_v74]
  simp only [v21_apply, v23_apply, v64_apply, v71_apply]
  exact products_im _ _ _

/-- The second stage and its twiddle factors, the real part. -/
theorem v106_apply (k l n : Fin 16) :
    val_main_v106 (F := Ideal) x0 x1 (ix5 b s k l n)
      = (bRe (aRe (digits x0 b s) (digits x1 b s)) (aIm (digits x0 b s) (digits x1 b s)) k l n : EReal) := by
  pointwise [val_main_v106, val_main_v105, val_main_v104, val_main_v103, val_main_v102, val_main_v101, val_main_v100]
  rw [v82_apply, v83_apply, v98_apply, v99_apply]
  exact twiddle_re _ _ _

/-- The second stage and its twiddle factors, the imaginary part. -/
theorem v113_apply (k l n : Fin 16) :
    val_main_v113 (F := Ideal) x0 x1 (ix5 b s k l n)
      = (bIm (aRe (digits x0 b s) (digits x1 b s)) (aIm (digits x0 b s) (digits x1 b s)) k l n : EReal) := by
  pointwise [val_main_v113, val_main_v112, val_main_v111, val_main_v110, val_main_v109, val_main_v108, val_main_v107]
  rw [v82_apply, v83_apply, v98_apply, v99_apply]
  exact twiddle_im _ _ _

/-- The third stage, the real part. -/
theorem v121_apply (k l q : Fin 16) :
    val_main_v121 (F := Ideal) x0 x1 (ix5 b s k l q) = (outRe (digits x0 b s) (digits x1 b s) k l q : EReal) := by
  pointwise [val_main_v121, val_main_v120, val_main_v118, val_main_v115, val_main_v117, val_main_v116]
  simp only [v21_apply, v25_apply, v106_apply, v113_apply]
  refine Eq.trans ?_ (products_re _ _ _)
  exact congrArg₂ (· - ·) (Finset.sum_congr rfl fun j _ => mul_comm _ _) (Finset.sum_congr rfl fun j _ => mul_comm _ _)

/-- The third stage, the imaginary part. -/
theorem v122_apply (k l q : Fin 16) :
    val_main_v122 (F := Ideal) x0 x1 (ix5 b s k l q) = (outIm (digits x0 b s) (digits x1 b s) k l q : EReal) := by
  pointwise [val_main_v122, val_main_v119, val_main_v118, val_main_v114, val_main_v117, val_main_v116]
  simp only [v21_apply, v23_apply, v106_apply, v113_apply]
  refine Eq.trans ?_ (products_im _ _ _)
  exact congrArg₂ (· + ·) (Finset.sum_congr rfl fun j _ => mul_comm _ _) (Finset.sum_congr rfl fun j _ => mul_comm _ _)

/-- The real result at an index: the transform times the scale of its token. -/
theorem v132_apply (r : Fin 10240) (c : Fin 4096) :
    val_main_v132 (F := Ideal) x0 x1 x2 (ix2 r c)
      = (outRe (digits x0 ⟨r.1 / 1024, by omega⟩ ⟨r.1 % 1024, by omega⟩) (digits x1 ⟨r.1 / 1024, by omega⟩ ⟨r.1 % 1024, by omega⟩)
          ⟨c.1 / 256, by omega⟩ ⟨c.1 / 16 % 16, by omega⟩ ⟨c.1 % 16, by omega⟩ : EReal)
        * (x2 (ix2 ⟨r.1 / 1024, by omega⟩ ⟨r.1 % 1024, by omega⟩) * Ideal.ofBits .f32 0x35030C28#32) := by
  rw [← v121_apply]
  pointwise [val_main_v132, val_main_v128, val_main_v127, val_main_v126, val_main_v125, val_main_v124, val_main_v123, val_main_cst_6]

/-- The imaginary result at an index: the transform times the scale of its token. -/
theorem v133_apply (r : Fin 10240) (c : Fin 4096) :
    val_main_v133 (F := Ideal) x0 x1 x2 (ix2 r c)
      = (outIm (digits x0 ⟨r.1 / 1024, by omega⟩ ⟨r.1 % 1024, by omega⟩) (digits x1 ⟨r.1 / 1024, by omega⟩ ⟨r.1 % 1024, by omega⟩)
          ⟨c.1 / 256, by omega⟩ ⟨c.1 / 16 % 16, by omega⟩ ⟨c.1 % 16, by omega⟩ : EReal)
        * (x2 (ix2 ⟨r.1 / 1024, by omega⟩ ⟨r.1 % 1024, by omega⟩) * Ideal.ofBits .f32 0x35030C28#32) := by
  rw [← v122_apply]
  pointwise [val_main_v133, val_main_v131, val_main_v130, val_main_v129, val_main_v125, val_main_v124, val_main_v123, val_main_cst_6]

end Cert.ReferenceIdeal.Read
end
-- ==== Proof.Blocks.lean ====
/- The blocks that the windows stage at a grid point, as the arguments and the tables. -/
module

public import proofs.«01_k».proof.Proof.StageB
public import proofs.«01_k».proof.Proof.TablesAt
public import proofs.«01_k».proof.Proof.RefAt
public import proofs.«01_k».proof.Proof.Gen.KernelIdeal.Value
public import Idealize.ShloMosaic.Lib.Pipeline.ValueKit

@[expose] public section
set_option maxRecDepth 16384
noncomputable section
namespace Cert.KernelIdeal.Gen
open Idealize.ShloMosaic Idealize.ShloMosaic.TcCoe Idealize.ShloMosaic.Tactic Cert.Fft

/-- Where each window's block lies. -/
theorem index_facts : ∀ t : Fin grid0.N, win0_0.index t = ![t.1, 0] ∧ win0_1.index t = ![t.1, 0] ∧ win0_2.index t = ![t.1, 0, 0]
    ∧ win0_3.index t = ![0, 0, 0] ∧ win0_4.index t = ![0, 0, 0] ∧ win0_5.index t = ![0, 0, 0, 0] ∧ win0_6.index t = ![t.1, 0]
    ∧ win0_7.index t = ![t.1, 0] := by decide +kernel

/-- Rows counted through both leading axes. -/
theorem rows_apply (X : Vec Ideal S10x1024x4096 .i8) (a : Fin 10240) (x : Fin 4096) :
    (shapeCast S10240x4096 X shapeCasts_S10x1024x4096_S10240x4096) (ix2 a x)
      = X (ix3 ⟨a.1 / 1024, by omega⟩ ⟨a.1 % 1024, by omega⟩ x) := by
  pointwise []

/-- Scales cut into blocks of 128. -/
theorem scales_apply (X : Vec Ideal S10x1024 .f32) (t : Fin 80) (R : Fin 128) :
    (shapeCast S80x1x128 X shapeCasts_S10x1024_S80x1x128) (ix3 t 0 R)
      = X (ix2 ⟨(t.1 * 128 + R.1) / 1024, by omega⟩ ⟨(t.1 * 128 + R.1) % 1024, by omega⟩) := by
  have e1 : (t.1 * 128 + R.1) / 1024 = t.1 / 8 := by omega
  have e2 : (t.1 * 128 + R.1) % 1024 = t.1 % 8 * 128 + R.1 := by omega
  simp only [e1, e2]
  pointwise []

variable (m : (ℓ : Loc nD τ sig) → Buf (Elt Ideal) ℓ) (c : Dev nD) (t : Fin cfg0.N)

/-- There are 80 grid points. -/
theorem point_lt : t.1 < 80 := t.isLt

/-- The row of the whole array that row `R` of block `t` is. -/
def rowAt (R : Fin 128) : Fin 10240 := ⟨t.1 * 128 + R.1, by have := point_lt t; omega⟩

/-- A block of the real parts: the rows of 128 tokens. -/
theorem block0 (R : Fin 128) (x : Fin 4096) : (iblk m c 0 t : Vec Ideal S128x4096 .i8) (ix2 R x)
    = (m (c, Proc.devRef .tc main_arg0) : Vec Ideal S10x1024x4096 .i8)
      (ix3 ⟨(rowAt t R).1 / 1024, by omega⟩ ⟨(rowAt t R).1 % 1024, by omega⟩ x) := by
  have h := (index_facts t).1
  have e : (win0_0.blk t).view.emb (ix2 R x) = ix2 (rowAt t R) x := by blk_ext [h, rowAt]
  have k := (congrArg (V m c main_v143) e).trans ((congrFun (xre_eq m c) _).trans (rows_apply _ _ _))
  exact k

/-- A block of the imaginary parts: the rows of 128 tokens. -/
theorem block1 (R : Fin 128) (x : Fin 4096) : (iblk m c 1 t : Vec Ideal S128x4096 .i8) (ix2 R x)
    = (m (c, Proc.devRef .tc main_arg1) : Vec Ideal S10x1024x4096 .i8)
      (ix3 ⟨(rowAt t R).1 / 1024, by omega⟩ ⟨(rowAt t R).1 % 1024, by omega⟩ x) := by
  have h := (index_facts t).2.1
  have e : (win0_1.blk t).view.emb (ix2 R x) = ix2 (rowAt t R) x := by blk_ext [h, rowAt]
  have k := (congrArg (V m c main_v144) e).trans ((congrFun (xim_eq m c) _).trans (rows_apply _ _ _))
  exact k

/-- A block of scales: those of 128 tokens. -/
theorem block2 (R : Fin 128) : (iblk m c 2 t : Vec Ideal S1x1x128 .f32) (ix3 0 0 R)
    = (m (c, Proc.devRef .tc main_arg2) : Vec Ideal S10x1024 .f32)
      (ix2 ⟨(rowAt t R).1 / 1024, by omega⟩ ⟨(rowAt t R).1 % 1024, by omega⟩) := by
  have h := (index_facts t).2.2.1
  have e : (win0_2.blk t).view.emb (ix3 0 0 R) = ix3 ⟨t.1, point_lt t⟩ 0 R := by blk_ext [h]
  have k := (congrArg (V m c main_v145) e).trans ((congrFun (scale_eq m c) _).trans (scales_apply _ _ _))
  exact k

/-- The first table is staged whole. -/
theorem block3 (p : Fin 2) (r x : Fin 256) : (iblk m c 3 t : Vec Ideal S2x256x256 .bf16) (ix3 p r x) = laTab (F := Ideal) (ix3 p r x) := by
  have h := (index_facts t).2.2.2.1
  have e : (win0_3.blk t).view.emb (ix3 p r x) = ix3 p r x := by blk_ext [h]
  exact (congrArg (V m c main_v54) e).trans (congrFun (la_eq m c) _)

/-- The second table is staged whole. -/
theorem block4 (p : Fin 6) (r x : Fin 256) : (iblk m c 4 t : Vec Ideal S6x256x256 .bf16) (ix3 p r x) = gaussTab (F := Ideal) (ix3 p r x) := by
  have h := (index_facts t).2.2.2.2.1
  have e : (win0_4.blk t).view.emb (ix3 p r x) = ix3 p r x := by blk_ext [h]
  exact (congrArg (V m c main_v97) e).trans (congrFun (gauss_eq m c) _)

/-- The third table is staged whole. -/
theorem block5 (i : Fin 4) (k : Fin 16) (s : Fin 8) (x : Fin 256) :
    (iblk m c 5 t : Vec Ideal S4x16x8x256 .f32) (ix4 i k s x) = twTab (F := Ideal) (ix4 i k s x) := by
  have h := (index_facts t).2.2.2.2.2.1
  have e : (win0_5.blk t).view.emb (ix4 i k s x) = ix4 i k s x := by blk_ext [h]
  exact (congrArg (V m c main_v142) e).trans (congrFun (tw_eq m c) _)

end Cert.KernelIdeal.Gen
end
-- ==== Proof.Output.lean ====
/- The two results of the kernel as functions of its arguments. -/
module

public import proofs.«01_k».proof.Proof.Blocks

@[expose] public section
set_option maxRecDepth 16384
noncomputable section
namespace Cert.KernelIdeal.Gen
open Idealize.ShloMosaic Idealize.ShloMosaic.TcCoe Idealize.ShloMosaic.Tactic Cert.Fft

/-- A block of a result: at row `R` and column `c` a transform `f` of the row's points, times its scale. -/
def blockOf (f : (Fin 16 → Fin 16 → Fin 16 → ℝ) → (Fin 16 → Fin 16 → Fin 16 → ℝ) → Fin 16 → Fin 16 → Fin 16 → ℝ)
    (x0 x1 : Vec Ideal S128x4096 .i8) (x2 : Vec Ideal S1x1x128 .f32) (R : Fin 128) (c : Fin 4096) : EReal :=
  (f (digits x0 R) (digits x1 R) ⟨c.1 / 256, by omega⟩ ⟨c.1 / 16 % 16, by omega⟩ ⟨c.1 % 16, by omega⟩ : EReal)
    * (x2 (ix3 0 0 R) * Ideal.ofBits .f32 0x35030C28#32)

/-- The slab's column as the block's. -/
theorem blockOf_slab (f : (Fin 16 → Fin 16 → Fin 16 → ℝ) → (Fin 16 → Fin 16 → Fin 16 → ℝ) → Fin 16 → Fin 16 → Fin 16 → ℝ)
    (x0 x1 : Vec Ideal S128x4096 .i8) (x2 : Vec Ideal S1x1x128 .f32) (k : Fin 16) (R : Fin 128) (x : Fin 256) :
    blockOf f x0 x1 x2 R ⟨256 * k.1 + x.1, by omega⟩
      = (f (digits x0 R) (digits x1 R) k (hi x) (lo x) : EReal) * (x2 (ix3 0 0 R) * Ideal.ofBits .f32 0x35030C28#32) := by
  have e1 : (256 * k.1 + x.1) / 256 = k.1 := by omega
  have e2 : (256 * k.1 + x.1) / 16 % 16 = x.1 / 16 := by omega
  have e3 : (256 * k.1 + x.1) % 16 = x.1 % 16 := by omega
  simp only [blockOf, e1, e2, e3, hi, lo]

section run
variable (c : Dev nD) (i : grid0.Coords) (arg1 : Memref sig .tc .vmem S128x4096 .i8) (harg1 : arg1.IsWhole)
  (arg2 : Memref sig .tc .vmem S128x4096 .i8) (harg2 : arg2.IsWhole)
  (arg3 : Memref sig .tc .vmem S1x1x128 .f32) (harg3 : arg3.IsWhole)
  (arg4 : Memref sig .tc .vmem S2x256x256 .bf16) (harg4 : arg4.IsWhole)
  (arg5 : Memref sig .tc .vmem S6x256x256 .bf16) (harg5 : arg5.IsWhole)
  (arg6 : Memref sig .tc .vmem S4x16x8x256 .f32) (harg6 : arg6.IsWhole)
  (arg7 : Memref sig .tc .vmem S128x4096 .f32) (harg7 : arg7.IsWhole)
  (arg8 : Memref sig .tc .vmem S128x4096 .f32) (harg8 : arg8.IsWhole)
  (arg9 : Memref sig .tc .vmem S128x4096 .bf16) (harg9 : arg9.IsWhole)
  (arg10 : Memref sig .tc .vmem S128x4096 .bf16) (harg10 : arg10.IsWhole)
  (arg11 : Memref sig .tc .vmem S128x4096 .bf16) (harg11 : arg11.IsWhole)
  (x0 x1 : Vec Ideal S128x4096 .i8) (x2 : Vec Ideal S1x1x128 .f32) (x3 : Vec Ideal S2x256x256 .bf16)
  (x4 : Vec Ideal S6x256x256 .bf16) (x5 : Vec Ideal S4x16x8x256 .f32)
  (T : TablesA x3 x5) (hG : TablesB (gaussOf arg5 harg5 x4))
include T hG

/-- What one run leaves in the real window. -/
theorem out6_apply (R : Fin 128) (col : Fin 4096) :
    out0_A_6 (F := Ideal) c i arg1 harg1 arg2 harg2 arg3 harg3 arg4 harg4 arg5 harg5 arg6 harg6 arg7 harg7 arg8 harg8 arg9
        harg9 arg10 harg10 arg11 harg11 x0 x1 x2 x3 x4 x5 (ix2 R col)
      = blockOf outRe x0 x1 x2 R col := by
  rw [out0_A_6, View.read_writes_junk_apply_eq_canon, out6_eq]
  exact canon_piecesB _ (fun y => blockOf outRe x0 x1 x2 (y 0) (y 1)) (fun k R x =>
    (lastRe_apply arg1 harg1 arg2 harg2 arg3 harg3 arg4 harg4 arg5 harg5 arg6 harg6 arg9 arg10 arg11 x0 x1 x2 x3 x4 x5 c T hG k R x).trans
      (blockOf_slab outRe x0 x1 x2 k R x).symm) (ix2 R col)

/-- What one run leaves in the imaginary window. -/
theorem out7_apply (R : Fin 128) (col : Fin 4096) :
    out0_A_7 (F := Ideal) c i arg1 harg1 arg2 harg2 arg3 harg3 arg4 harg4 arg5 harg5 arg6 harg6 arg7 harg7 arg8 harg8 arg9
        harg9 arg10 harg10 arg11 harg11 x0 x1 x2 x3 x4 x5 (ix2 R col)
      = blockOf outIm x0 x1 x2 R col := by
  rw [out0_A_7, View.read_writes_junk_apply_eq_canon, out7_eq]
  exact canon_piecesB _ (fun y => blockOf outIm x0 x1 x2 (y 0) (y 1)) (fun k R x =>
    (lastIm_apply arg1 harg1 arg2 harg2 arg3 harg3 arg4 harg4 arg5 harg5 arg6 harg6 arg9 arg10 arg11 x0 x1 x2 x3 x4 x5 c T hG k R x).trans
      (blockOf_slab outIm x0 x1 x2 k R x).symm) (ix2 R col)

end run

variable (m : (ℓ : Loc nD τ sig) → Buf (Elt Ideal) ℓ) (c : Dev nD) (t : Fin cfg0.N)

/-- The tables that the kernel is given hold what the first stage and the twiddle factors need. -/
theorem tablesA : TablesA (iblk m c 3 t) (iblk m c 5 t) where
  la p r x := (block3 m c t p r x).trans (laTab_apply p r x)
  cos1 k s x := (block5 m c t 0 k s x).trans (twTab_apply 0 k s x)
  sin1 k s x := (block5 m c t 1 k s x).trans (twTab_apply 1 k s x)
  cos2 k s x := (block5 m c t 2 k s x).trans (twTab_apply 2 k s x)
  sin2 k s x := (block5 m c t 3 k s x).trans (twTab_apply 3 k s x)

/-- The tables that the kernel is given hold what the second and the third stage need. -/
theorem tablesB (arg5 : Memref sig .tc .vmem S6x256x256 .bf16) (harg5 : arg5.IsWhole) : TablesB (gaussOf arg5 harg5 (iblk m c 4 t)) where
  high i h r x := (gaussOf_apply arg5 harg5 _ i r x).trans ((block4 m c t i r x).trans (gaussTab_high i h r x))
  low i h r x := (gaussOf_apply arg5 harg5 _ i r x).trans ((block4 m c t i r x).trans (gaussTab_low i h r x))

/-- A result: at row `r` and column `c` a transform `f` of the row's points, times its scale. -/
def resultOf (f : (Fin 16 → Fin 16 → Fin 16 → ℝ) → (Fin 16 → Fin 16 → Fin 16 → ℝ) → Fin 16 → Fin 16 → Fin 16 → ℝ)
    (X Y : Vec Ideal S10x1024x4096 .i8) (s : Vec Ideal S10x1024 .f32) (i : S10240x4096.Idx) : EReal :=
  (f (Cert.ReferenceIdeal.Read.digits X ⟨(i 0).1 / 1024, by have : (i 0).1 < 10240 := (i 0).isLt; omega⟩ ⟨(i 0).1 % 1024, by omega⟩)
      (Cert.ReferenceIdeal.Read.digits Y ⟨(i 0).1 / 1024, by have : (i 0).1 < 10240 := (i 0).isLt; omega⟩ ⟨(i 0).1 % 1024, by omega⟩)
      ⟨(i 1).1 / 256, by have : (i 1).1 < 4096 := (i 1).isLt; omega⟩ ⟨(i 1).1 / 16 % 16, by omega⟩ ⟨(i 1).1 % 16, by omega⟩ : EReal)
    * (s (ix2 ⟨(i 0).1 / 1024, by have : (i 0).1 < 10240 := (i 0).isLt; omega⟩ ⟨(i 0).1 % 1024, by omega⟩) * Ideal.ofBits .f32 0x35030C28#32)

/-- A block's real points are those of its rows of the argument. -/
theorem digits0 (R : Fin 128) : digits (iblk m c 0 t) R
    = Cert.ReferenceIdeal.Read.digits (m (c, Proc.devRef .tc main_arg0)) ⟨(rowAt t R).1 / 1024, by omega⟩ ⟨(rowAt t R).1 % 1024, by omega⟩ := by
  funext j k n
  exact congrArg val8 (block0 m c t R _)
/-- The same for the imaginary points. -/
theorem digits1 (R : Fin 128) : digits (iblk m c 1 t) R
    = Cert.ReferenceIdeal.Read.digits (m (c, Proc.devRef .tc main_arg1)) ⟨(rowAt t R).1 / 1024, by omega⟩ ⟨(rowAt t R).1 % 1024, by omega⟩ := by
  funext j k n
  exact congrArg val8 (block1 m c t R _)

/-- A block of the blocks' transforms is a block of the whole. -/
theorem blockOf_eq (f : (Fin 16 → Fin 16 → Fin 16 → ℝ) → (Fin 16 → Fin 16 → Fin 16 → ℝ) → Fin 16 → Fin 16 → Fin 16 → ℝ)
    (R : Fin 128) (x : Fin 4096) : blockOf f (iblk m c 0 t) (iblk m c 1 t) (iblk m c 2 t) R x
      = resultOf f (m (c, Proc.devRef .tc main_arg0)) (m (c, Proc.devRef .tc main_arg1)) (m (c, Proc.devRef .tc main_arg2)) (ix2 (rowAt t R) x) := by
  rw [blockOf, digits0, digits1, block2]
  rfl

/-- Where a block's element lies in the real result. -/
theorem emb6 (y : S128x4096.Idx) : (win0_6.blk t).view.emb y = ix2 (rowAt t (y 0)) (y 1) := by
  have h := (index_facts t).2.2.2.2.2.2.1
  blk_ext [h, rowAt]

/-- Where a block's element lies in the imaginary result. -/
theorem emb7 (y : S128x4096.Idx) : (win0_7.blk t).view.emb y = ix2 (rowAt t (y 0)) (y 1) := by
  have h := (index_facts t).2.2.2.2.2.2.2
  blk_ext [h, rowAt]

/-- What the run at a grid point leaves in the real window, from the blocks staged there. -/
theorem point6 (R : Fin 128) (x : Fin 4096) :
    out0_A_6 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix2 R x)
      = blockOf outRe (iblk m c 0 t) (iblk m c 1 t) (iblk m c 2 t) R x := by
  generalize hx3 : iblk m c 3 t = x3
  generalize hx4 : iblk m c 4 t = x4
  generalize hx5 : iblk m c 5 t = x5
  have T : TablesA x3 x5 := by rw [← hx3, ← hx5]; exact tablesA m c t
  have hG : TablesB (gaussOf (ms0_4 t) (hs0_4 t) x4) := by rw [← hx4]; exact tablesB m c t _ _
  clear hx3 hx4 hx5
  generalize iblk m c 0 t = x0
  generalize iblk m c 1 t = x1
  generalize iblk m c 2 t = x2
  rw [out6_apply]
  · exact T
  · exact hG

/-- What a grid point leaves in the window, as the run's term. -/
theorem opened6 (R : Fin 128) (x : Fin 4096) : (outsAt0 m c t).1 (ix2 R x)
    = out0_A_6 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix2 R x) := by
  rw [outsAt0]

/-- What a grid point leaves in the real window, from the arguments. -/
theorem left6 (R : Fin 128) (x : Fin 4096) : (outsAt0 m c t).1 (ix2 R x)
    = resultOf outRe (m (c, Proc.devRef .tc main_arg0)) (m (c, Proc.devRef .tc main_arg1)) (m (c, Proc.devRef .tc main_arg2))
        (ix2 (rowAt t R) x) := by
  rw [opened6, point6, blockOf_eq]

/-- A function of the whole result that a grid point's window agrees with. -/
theorem after6 (y : ((cfg0.win 6).xblock (cfg0.grid.coords t)).Idx) (Q : S10240x4096.Idx → EReal)
    (hQ : ∀ R x, (outsAt0 m c t).1 (ix2 R x) = Q (ix2 (rowAt t R) x)) : (dats m 0 c).after 6 t y = Q ((win0_6.blk t).view.emb y) := by
  have k : ∀ y : S128x4096.Idx, (outsAt0 m c t).1 y = Q ((win0_6.blk t).view.emb y) := by
    intro y
    idx_vars y
    rw [hQ, emb6]
    rfl
  exact (congrFun (after0_6 m c t) y).trans (k y)

/-- The real result after the run. -/
theorem result6 : (dats m 0 c).arrAt 6 cfg0.N
    = resultOf outRe (m (c, Proc.devRef .tc main_arg0)) (m (c, Proc.devRef .tc main_arg1)) (m (c, Proc.devRef .tc main_arg2)) := by
  refine (dats m 0 c).arrAt_eq_of_covers 6 _ (by decide +kernel) fun t hf y => ?_
  blk_simp
  exact after6 m c t y _ (left6 m c t)

/-- What the run at a grid point leaves in the imaginary window, from the blocks staged there. -/
theorem point7 (R : Fin 128) (x : Fin 4096) :
    out0_A_7 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix2 R x)
      = blockOf outIm (iblk m c 0 t) (iblk m c 1 t) (iblk m c 2 t) R x := by
  generalize hx3 : iblk m c 3 t = x3
  generalize hx4 : iblk m c 4 t = x4
  generalize hx5 : iblk m c 5 t = x5
  have T : TablesA x3 x5 := by rw [← hx3, ← hx5]; exact tablesA m c t
  have hG : TablesB (gaussOf (ms0_4 t) (hs0_4 t) x4) := by rw [← hx4]; exact tablesB m c t _ _
  clear hx3 hx4 hx5
  generalize iblk m c 0 t = x0
  generalize iblk m c 1 t = x1
  generalize iblk m c 2 t = x2
  rw [out7_apply]
  · exact T
  · exact hG

/-- What a grid point leaves in the window, as the run's term. -/
theorem opened7 (R : Fin 128) (x : Fin 4096) : (outsAt0 m c t).2 (ix2 R x)
    = out0_A_7 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix2 R x) := by
  rw [outsAt0]

/-- What a grid point leaves in the imaginary window, from the arguments. -/
theorem left7 (R : Fin 128) (x : Fin 4096) : (outsAt0 m c t).2 (ix2 R x)
    = resultOf outIm (m (c, Proc.devRef .tc main_arg0)) (m (c, Proc.devRef .tc main_arg1)) (m (c, Proc.devRef .tc main_arg2))
        (ix2 (rowAt t R) x) := by
  rw [opened7, point7, blockOf_eq]

/-- A function of the whole result that a grid point's window agrees with. -/
theorem after7 (y : ((cfg0.win 7).xblock (cfg0.grid.coords t)).Idx) (Q : S10240x4096.Idx → EReal)
    (hQ : ∀ R x, (outsAt0 m c t).2 (ix2 R x) = Q (ix2 (rowAt t R) x)) : (dats m 0 c).after 7 t y = Q ((win0_7.blk t).view.emb y) := by
  have k : ∀ y : S128x4096.Idx, (outsAt0 m c t).2 y = Q ((win0_7.blk t).view.emb y) := by
    intro y
    idx_vars y
    rw [hQ, emb7]
    rfl
  exact (congrFun (after0_7 m c t) y).trans (k y)

/-- The imaginary result after the run. -/
theorem result7 : (dats m 0 c).arrAt 7 cfg0.N
    = resultOf outIm (m (c, Proc.devRef .tc main_arg0)) (m (c, Proc.devRef .tc main_arg1)) (m (c, Proc.devRef .tc main_arg2)) := by
  refine (dats m 0 c).arrAt_eq_of_covers 7 _ (by decide +kernel) fun t hf y => ?_
  blk_simp
  exact after7 m c t y _ (left7 m c t)

end Cert.KernelIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Output
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The reference runs to the end, leaves its arguments as they were, and declares no semaphore. -/
theorem frame_reference : Cert.quiescent_ReferenceIdeal (hReferenceIdeal := Cert.ReferenceIdeal.Gen.facts) :=
  fun m ρ _ => Idealize.ShloMosaic.θ_run_mono (Cert.ReferenceIdeal.Value.run m ρ) fun r h =>
    ⟨fun c => ⟨(h c).2.2.1, (h c).2.2.2.1, (h c).2.2.2.2⟩, Idealize.ShloMosaic.sem_eq_zero_of_no_sems (by decide) r.2⟩

section value
variable (x0 x1 : Vec Ideal Cert.ReferenceIdeal.S10x1024x4096 .i8) (x2 : Vec Ideal Cert.ReferenceIdeal.S10x1024 .f32)

/-- The reference's real result is the transform that the kernel computes. -/
theorem reference_re : Cert.ReferenceIdeal.Read.val_main_v132 (F := Ideal) x0 x1 x2 = Cert.KernelIdeal.Gen.resultOf Cert.Fft.outRe x0 x1 x2 := by
  funext i
  idx_vars i
  exact Cert.ReferenceIdeal.Read.v132_apply x0 x1 x2 _ _

/-- The reference's imaginary result is the transform that the kernel computes. -/
theorem reference_im : Cert.ReferenceIdeal.Read.val_main_v133 (F := Ideal) x0 x1 x2 = Cert.KernelIdeal.Gen.resultOf Cert.Fft.outIm x0 x1 x2 := by
  funext i
  idx_vars i
  exact Cert.ReferenceIdeal.Read.v133_apply x0 x1 x2 _ _

/-- Equal arguments give an equal transform. -/
theorem resultOf_congr {f y0 y1 y2} (h0 : x0 = y0) (h1 : x1 = y1) (h2 : x2 = y2) :
    Cert.KernelIdeal.Gen.resultOf f x0 x1 x2 = Cert.KernelIdeal.Gen.resultOf f y0 y1 y2 := by
  rw [h0, h1, h2]
end value

/-- Over the real numbers the kernel and the reference have equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.resultOf Cert.Fft.outRe (m (c, Proc.devRef .tc Cert.KernelIdeal.main_arg0))
      (m (c, Proc.devRef .tc Cert.KernelIdeal.main_arg1)) (m (c, Proc.devRef .tc Cert.KernelIdeal.main_arg2)),
    fun c => Cert.KernelIdeal.Gen.resultOf Cert.Fft.outIm (m (c, Proc.devRef .tc Cert.KernelIdeal.main_arg0))
      (m (c, Proc.devRef .tc Cert.KernelIdeal.main_arg1)) (m (c, Proc.devRef .tc Cert.KernelIdeal.main_arg2)),
    Idealize.ShloMosaic.θ_run_mono (Cert.KernelIdeal.Value.run_blocks m g) fun r h c =>
      ⟨(h c).1.trans (Cert.KernelIdeal.Gen.result6 m c), (h c).2.1.trans (Cert.KernelIdeal.Gen.result7 m c), (h c).2.2⟩,
    Idealize.ShloMosaic.θ_run_mono (Cert.ReferenceIdeal.Value.run m' g') fun r h c => ⟨?_, ?_, (h c).2.2⟩⟩
  · refine (h c).1.trans ((Cert.ReferenceIdeal.Read.val_main_v132_eq _).trans ((reference_re _ _ _).trans ?_))
    exact resultOf_congr _ _ _ (hagree c).1 (hagree c).2.1 (hagree c).2.2
  · refine (h c).2.1.trans ((Cert.ReferenceIdeal.Read.val_main_v133_eq _).trans ((reference_im _ _ _).trans ?_))
    exact resultOf_congr _ _ _ (hagree c).1 (hagree c).2.1 (hagree c).2.2

/-- Everything claimed. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference, trivial, equal_results⟩

end Cert.Proof

end
